-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v23_15) = v4 c
          ∧ r.2.mem ((c.tc : Thread Cert.ReferenceIdeal.nD Cert.ReferenceIdeal.τ).loc Cert.ReferenceIdeal.main_v23_18) = v5 c
          ∧ r.2.mem ((c.tc : Thread Cert.ReferenceIdeal.nD Cert.ReferenceIdeal.τ).loc Cert.ReferenceIdeal.main_v33) = v6 c
          ∧ r.2.mem ((c.tc : Thread Cert.ReferenceIdeal.nD Cert.ReferenceIdeal.τ).loc Cert.ReferenceIdeal.main_v23_12) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v14_11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v57) = v0 c
          ∧ r.2.mem ((c.tc : Thread Cert.Reference9Ideal.nD Cert.Reference9Ideal.τ).loc Cert.Reference9Ideal.main_v59) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v39) = v1 c
          ∧ r.2.mem ((c.tc : Thread Cert.Reference10Ideal.nD Cert.Reference10Ideal.τ).loc Cert.Reference10Ideal.main_v21) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v49) = v0 c
          ∧ r.2.mem ((c.tc : Thread Cert.Reference12Ideal.nD Cert.Reference12Ideal.τ).loc Cert.Reference12Ideal.main_v48) = v1 c
          ∧ r.2.mem ((c.tc : Thread Cert.Reference12Ideal.nD Cert.Reference12Ideal.τ).loc Cert.Reference12Ideal.main_v50) = v2 c
          ∧ r.2.mem ((c.tc : Thread Cert.Reference12Ideal.nD Cert.Reference12Ideal.τ).loc Cert.Reference12Ideal.main_v32) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_v10) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S2048x512 : Shape := ⟨2, ![2048, 512]⟩
abbrev S32x4x64x64 : Shape := ⟨4, ![32, 4, 64, 64]⟩
abbrev S32x4x128 : Shape := ⟨3, ![32, 4, 128]⟩
abbrev S2048x4224 : Shape := ⟨2, ![2048, 4224]⟩
abbrev S1x128 : Shape := ⟨2, ![1, 128]⟩
abbrev S32x4x128x128 : Shape := ⟨4, ![32, 4, 128, 128]⟩
abbrev S2048x1024 : Shape := ⟨2, ![2048, 1024]⟩
abbrev S64x512 : Shape := ⟨2, ![64, 512]⟩
abbrev S1x4x64x64 : Shape := ⟨4, ![1, 4, 64, 64]⟩
abbrev S1x4x128 : Shape := ⟨3, ![1, 4, 128]⟩
abbrev S1x4x128x128 : Shape := ⟨4, ![1, 4, 128, 128]⟩
abbrev S4x128x128 : Shape := ⟨3, ![4, 128, 128]⟩
abbrev S64x128 : Shape := ⟨2, ![64, 128]⟩
abbrev S1x1x64x64 : Shape := ⟨4, ![1, 1, 64, 64]⟩
abbrev S64x64 : Shape := ⟨2, ![64, 64]⟩
abbrev S1x1x128 : Shape := ⟨3, ![1, 1, 128]⟩
abbrev S1x1x128x128 : Shape := ⟨4, ![1, 1, 128, 128]⟩
abbrev S128x128 : Shape := ⟨2, ![128, 128]⟩
abbrev S64 : Shape := ⟨1, ![64]⟩
abbrev S64x1 : Shape := ⟨2, ![64, 1]⟩
abbrev S1x128x128 : Shape := ⟨3, ![1, 128, 128]⟩
abbrev S128 : Shape := ⟨1, ![128]⟩

abbrev nBuf : Space → Nat
  | .hbm => 18
  | .vmem => 35
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S32x4x64x64, .f32⟩
  | .hbm, ⟨5, _⟩ => ⟨S32x4x128, .f32⟩
  | .hbm, ⟨6, _⟩ => ⟨S2048x4224, .f32⟩
  | .hbm, ⟨7, _⟩ => ⟨S1x128, .f32⟩
  | .hbm, ⟨8, _⟩ => ⟨S32x4x128x128, .f32⟩
  | .hbm, ⟨9, _⟩ => ⟨S2048x1024, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S32x4x64x64, .f32⟩
  | .hbm, ⟨15, _⟩ => ⟨S32x4x128, .f32⟩
  | .hbm, ⟨16, _⟩ => ⟨S2048x512, .f32⟩
  | .hbm, ⟨17, _⟩ => ⟨S1x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S1x4x64x64, .f32⟩
  | .local _ .vmem, ⟨9, _⟩ => ⟨S1x4x64x64, .f32⟩
  | .local _ .vmem, ⟨10, _⟩ => ⟨S1x4x128, .f32⟩
  | .local _ .vmem, ⟨11, _⟩ => ⟨S1x4x128, .f32⟩
  | .local _ .vmem, ⟨12, _⟩ => ⟨S64x512, .f32⟩
  | .local _ .vmem, ⟨13, _⟩ => ⟨S64x512, .f32⟩
  | .local _ .vmem, ⟨14, _⟩ => ⟨S1x128, .f32⟩
  | .local _ .vmem, ⟨15, _⟩ => ⟨S1x4x128x128, .f32⟩
  | .local _ .vmem, ⟨16, _⟩ => ⟨S1x4x128x128, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S64x512, .f32⟩
  | .local _ .vmem, ⟨23, _⟩ => ⟨S64x512, .f32⟩
  | .local _ .vmem, ⟨24, _⟩ => ⟨S64x512, .f32⟩
  | .local _ .vmem, ⟨25, _⟩ => ⟨S64x512, .f32⟩
  | .local _ .vmem, ⟨26, _⟩ => ⟨S64x512, .f32⟩
  | .local _ .vmem, ⟨27, _⟩ => ⟨S1x4x64x64, .f32⟩
  | .local _ .vmem, ⟨28, _⟩ => ⟨S1x4x64x64, .f32⟩
  | .local _ .vmem, ⟨29, _⟩ => ⟨S1x4x128, .f32⟩
  | .local _ .vmem, ⟨30, _⟩ => ⟨S1x4x128, .f32⟩
  | .local _ .vmem, ⟨31, _⟩ => ⟨S64x512, .f32⟩
  | .local _ .vmem, ⟨32, _⟩ => ⟨S64x512, .f32⟩
  | .local _ .vmem, ⟨33, _⟩ => ⟨S1x128, .f32⟩
  | .local _ .vmem, ⟨34, _⟩ => ⟨S4x128x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_15 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x64x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S2048x512 : Shape := ⟨2, ![2048, 512]⟩
abbrev S32x4x64x64 : Shape := ⟨4, ![32, 4, 64, 64]⟩
abbrev S32x4x128 : Shape := ⟨3, ![32, 4, 128]⟩
abbrev S2048x4224 : Shape := ⟨2, ![2048, 4224]⟩
abbrev S1x128 : Shape := ⟨2, ![1, 128]⟩
abbrev S32x4x128x128 : Shape := ⟨4, ![32, 4, 128, 128]⟩
abbrev S2048x1024 : Shape := ⟨2, ![2048, 1024]⟩
abbrev S32x64x4x128 : Shape := ⟨4, ![32, 64, 4, 128]⟩
abbrev S32x4x64x128 : Shape := ⟨4, ![32, 4, 64, 128]⟩
abbrev S_ : Shape := ⟨0, ![]⟩
abbrev S4x128x128 : Shape := ⟨3, ![4, 128, 128]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x128 : Shape := ⟨3, ![1, 4, 128]⟩
abbrev S4x128 : Shape := ⟨2, ![4, 128]⟩
abbrev S4x1x128 : Shape := ⟨3, ![4, 1, 128]⟩
abbrev S4x64 : Shape := ⟨2, ![4, 64]⟩
abbrev S4x64x1 : Shape := ⟨3, ![4, 64, 1]⟩
abbrev S1x1x128 : Shape := ⟨3, ![1, 1, 128]⟩
abbrev S128 : Shape := ⟨1, ![128]⟩
abbrev S4x128x64 : Shape := ⟨3, ![4, 128, 64]⟩

abbrev nBuf : Space → Nat
  | .hbm => 261
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S32x4x64x64, .f32⟩
  | 5 => ⟨S32x4x128, .f32⟩
  | 6 => ⟨S2048x4224, .f32⟩
  | 7 => ⟨S1x128, .f32⟩
  | 8 => ⟨S32x4x128x128, .f32⟩
  | 9 => ⟨S2048x1024, .f32⟩
  | 10 => ⟨S2048x512, .f32⟩
  | 11 => ⟨S32x64x4x128, .f32⟩
  | 12 => ⟨S32x4x64x128, .f32⟩
  | 13 => ⟨S32x64x4x128, .f32⟩
  | 14 => ⟨S32x4x64x128, .f32⟩
  | 15 => ⟨S32x64x4x128, .f32⟩
  | 16 => ⟨S32x4x64x128, .f32⟩
  | 17 => ⟨S32x64x4x128, .f32⟩
  | 18 => ⟨S32x4x64x128, .f32⟩
  | 19 => ⟨S32x64x4x128, .f32⟩
  | 20 => ⟨S32x4x64x128, .f32⟩
  | 21 => ⟨S2048x512, .f32⟩
  | 22 => ⟨S32x64x4x128, .f32⟩
  | 23 => ⟨S32x4x64x128, .f32⟩
  | 24 => ⟨S_, .f32⟩
  | 25 => ⟨S4x128x128, .f32⟩
  | 26 => ⟨S_, .f32⟩
  | 27 => ⟨S1x128, .f32⟩
  | 28 => ⟨S_, .f32⟩
  | 29 => ⟨S32x4x64x128, .f32⟩
  | 30 => ⟨S_, .f32⟩
  | 31 => ⟨S32x4x64x128, .f32⟩
  | 32 => ⟨S_, .f32⟩
  | 33 => ⟨S32x4x64x64, .f32⟩
  | 34 => ⟨S_, .f32⟩
  | 35 => ⟨S32x4x64x128, .f32⟩
  | 36 => ⟨S_, .f32⟩
  | 37 => ⟨S32x4x64x128, .f32⟩
  | 38 => ⟨S_, .f32⟩
  | 39 => ⟨S32x4x128, .f32⟩
  | 40 => ⟨S_, .f32⟩
  | 41 => ⟨S32x4x64x128, .f32⟩
  | 42 => ⟨S_, .i32⟩
  | 43 => ⟨S32x4x128x128, .f32⟩
  | 44 => ⟨S32x4x64x128, .f32⟩
  | 45 => ⟨S32x4x64x128, .f32⟩
  | 46 => ⟨S32x4x64x128, .f32⟩
  | 47 => ⟨S32x4x64x64, .f32⟩
  | 48 => ⟨S32x4x64x128, .f32⟩
  | 49 => ⟨S32x4x64x128, .f32⟩
  | 50 => ⟨S32x4x128, .f32⟩
  | 51 => ⟨S32x4x64x128, .f32⟩
  | 52 => ⟨S1x128, .f32⟩
  | 53 => ⟨S_, .i32⟩
  | 54 => ⟨S4x128x128, .f32⟩
  | 55 => ⟨S1x128, .f32⟩
  | 56 => ⟨S32x4x64x128, .f32⟩
  | 57 => ⟨S32x4x64x128, .f32⟩
  | 58 => ⟨S32x4x64x64, .f32⟩
  | 59 => ⟨S32x4x64x128, .f32⟩
  | 60 => ⟨S32x4x64x128, .f32⟩
  | 61 => ⟨S32x4x128, .f32⟩
  | 62 => ⟨S32x4x64x128, .f32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S1x4x128x128, .f32⟩
  | 73 => ⟨S4x128x128, .f32⟩
  | 74 => ⟨S_, .i32⟩
  | 75 => ⟨S_, .i32⟩
  | 76 => ⟨S_, .i32⟩
  | 77 => ⟨S1x4x64x128, .f32⟩
  | 78 => ⟨S4x64x128, .f32⟩
  | 79 => ⟨S_, .i32⟩
  | 80 => ⟨S_, .i32⟩
  | 81 => ⟨S_, .i32⟩
  | 82 => ⟨S1x4x64x128, .f32⟩
  | 83 => ⟨S4x64x128, .f32⟩
  | 84 => ⟨S_, .i32⟩
  | 85 => ⟨S_, .i32⟩
  | 86 => ⟨S_, .i32⟩
  | 87 => ⟨S1x4x64x128, .f32⟩
  | 88 => ⟨S4x64x128, .f32⟩
  | 89 => ⟨S_, .i32⟩
  | 90 => ⟨S_, .i32⟩
  | 91 => ⟨S_, .i32⟩
  | 92 => ⟨S1x4x64x64, .f32⟩
  | 93 => ⟨S4x64x64, .f32⟩
  | 94 => ⟨S_, .i32⟩
  | 95 => ⟨S_, .i32⟩
  | 96 => ⟨S_, .i32⟩
  | 97 => ⟨S1x4x64x128, .f32⟩
  | 98 => ⟨S4x64x128, .f32⟩
  | 99 => ⟨S_, .i32⟩
  | 100 => ⟨S_, .i32⟩
  | 101 => ⟨S_, .i32⟩
  | 102 => ⟨S1x4x64x128, .f32⟩
  | 103 => ⟨S4x64x128, .f32⟩
  | 104 => ⟨S_, .i32⟩
  | 105 => ⟨S_, .i32⟩
  | 106 => ⟨S1x4x128, .f32⟩
  | 107 => ⟨S4x128, .f32⟩
  | 108 => ⟨S_, .i32⟩
  | 109 => ⟨S_, .i32⟩
  | 110 => ⟨S_, .i32⟩
  | 111 => ⟨S1x4x64x128, .f32⟩
  | 112 => ⟨S4x64x128, .f32⟩
  | 113 => ⟨S4x64x128, .f32⟩
  | 114 => ⟨S4x64x128, .f32⟩
  | 115 => ⟨S4x64x128, .f32⟩
  | 116 => ⟨S4x64x128, .f32⟩
  | 117 => ⟨S4x64x128, .f32⟩
  | 118 => ⟨S4x1x128, .f32⟩
  | 119 => ⟨S4x128x128, .f32⟩
  | 120 => ⟨S4x128x128, .f32⟩
  | 121 => ⟨S4x128x128, .f32⟩
  | 122 => ⟨S4x128x128, .f32⟩
  | 123 => ⟨S4x64x128, .f32⟩
  | 124 => ⟨S_, .f32⟩
  | 125 => ⟨S4x64, .f32⟩
  | 126 => ⟨S4x64x1, .f32⟩
  | 127 => ⟨S_, .f32⟩
  | _ => ⟨S2048x512, .f32⟩

abbrev hbmTy0_1 (i : Nat) : BufTy := match i % 128 with
  | 0 => ⟨S4x64x1, .f32⟩
  | 1 => ⟨S4x64x1, .f32⟩
  | 2 => ⟨S_, .f32⟩
  | 3 => ⟨S4x64x1, .f32⟩
  | 4 => ⟨S4x64x1, .f32⟩
  | 5 => ⟨S4x64x1, .f32⟩
  | 6 => ⟨S4x64x1, .f32⟩
  | 7 => ⟨S_, .f32⟩
  | 8 => ⟨S4x64x1, .f32⟩
  | 9 => ⟨S4x64x1, .f32⟩
  | 10 => ⟨S4x64x128, .f32⟩
  | 11 => ⟨S4x64x128, .f32⟩
  | 12 => ⟨S1x1x128, .f32⟩
  | 13 => ⟨S4x64x128, .f32⟩
  | 14 => ⟨S4x64x128, .f32⟩
  | 15 => ⟨S4x64x128, .f32⟩
  | 16 => ⟨S4x64x128, .f32⟩
  | 17 => ⟨S_, .f32⟩
  | 18 => ⟨S4x64x128, .f32⟩
  | 19 => ⟨S4x64x128, .f32⟩
  | 20 => ⟨S_, .f32⟩
  | 21 => ⟨S4x64x128, .f32⟩
  | 22 => ⟨S4x64x128, .f32⟩
  | 23 => ⟨S_, .f32⟩
  | 24 => ⟨S4x64x128, .f32⟩
  | 25 => ⟨S4x64x128, .f32⟩
  | 26 => ⟨S4x64x128, .f32⟩
  | 27 => ⟨S4x64x128, .f32⟩
  | 28 => ⟨S4x64x128, .f32⟩
  | 29 => ⟨S4x64x128, .f32⟩
  | 30 => ⟨S4x64x128, .f32⟩
  | 31 => ⟨S4x64x128, .f32⟩
  | 32 => ⟨S4x64x128, .f32⟩
  | 33 => ⟨S4x64x128, .f32⟩
  | 34 => ⟨S4x64x128, .f32⟩
  | 35 => ⟨S4x64x128, .f32⟩
  | 36 => ⟨S_, .f32⟩
  | 37 => ⟨S128, .f32⟩
  | 38 => ⟨S1x1x128, .f32⟩
  | 39 => ⟨S4x64x128, .f32⟩
  | 40 => ⟨S4x64x128, .f32⟩
  | 41 => ⟨S_, .f32⟩
  | 42 => ⟨S128, .f32⟩
  | 43 => ⟨S1x128, .f32⟩
  | 44 => ⟨S4x64x128, .f32⟩
  | 45 => ⟨S_, .f32⟩
  | 46 => ⟨S4x64, .f32⟩
  | 47 => ⟨S4x64x1, .f32⟩
  | 48 => ⟨S4x64x128, .f32⟩
  | 49 => ⟨S4x64x128, .f32⟩
  | 50 => ⟨S4x64x1, .f32⟩
  | 51 => ⟨S_, .f32⟩
  | 52 => ⟨S4x64x1, .f32⟩
  | 53 => ⟨S4x64x1, .f32⟩
  | 54 => ⟨S_, .f32⟩
  | 55 => ⟨S4x64, .f32⟩
  | 56 => ⟨S4x64x128, .f32⟩
  | 57 => ⟨S4x64x128, .f32⟩
  | 58 => ⟨S4x64x128, .f32⟩
  | 59 => ⟨S4x64x128, .f32⟩
  | 60 => ⟨S4x64x128, .f32⟩
  | 61 => ⟨S4x128x64, .f32⟩
  | 62 => ⟨S4x64x128, .f32⟩
  | 63 => ⟨S4x128x64, .f32⟩
  | 64 => ⟨S4x64x128, .f32⟩
  | 65 => ⟨S4x128x128, .f32⟩
  | 66 => ⟨S_, .f32⟩
  | 67 => ⟨S4x128, .f32⟩
  | 68 => ⟨S4x1x128, .f32⟩
  | 69 => ⟨S4x128x128, .f32⟩
  | 70 => ⟨S4x128x128, .f32⟩
  | 71 => ⟨S_, .f32⟩
  | 72 => ⟨S4x128, .f32⟩
  | 73 => ⟨S4x128x64, .f32⟩
  | 74 => ⟨S4x64x128, .f32⟩
  | 75 => ⟨S4x64x128, .f32⟩
  | 76 => ⟨S4x64x64, .f32⟩
  | 77 => ⟨S4x128x128, .f32⟩
  | 78 => ⟨S4x128x128, .f32⟩
  | 79 => ⟨S4x128x128, .f32⟩
  | 80 => ⟨S4x64x128, .f32⟩
  | 81 => ⟨S4x64x128, .f32⟩
  | 82 => ⟨S4x128x128, .f32⟩
  | 83 => ⟨S4x128x128, .f32⟩
  | 84 => ⟨S4x128x128, .f32⟩
  | 85 => ⟨S4x64x128, .f32⟩
  | 86 => ⟨S1x128, .f32⟩
  | 87 => ⟨S1x4x64x128, .f32⟩
  | 88 => ⟨S_, .i32⟩
  | 89 => ⟨S_, .i32⟩
  | 90 => ⟨S_, .i32⟩
  | 91 => ⟨S32x4x64x128, .f32⟩
  | 92 => ⟨S1x4x64x128, .f32⟩
  | 93 => ⟨S_, .i32⟩
  | 94 => ⟨S_, .i32⟩
  | 95 => ⟨S_, .i32⟩
  | 96 => ⟨S32x4x64x128, .f32⟩
  | 97 => ⟨S1x4x64x64, .f32⟩
  | 98 => ⟨S_, .i32⟩
  | 99 => ⟨S_, .i32⟩
  | 100 => ⟨S_, .i32⟩
  | 101 => ⟨S32x4x64x64, .f32⟩
  | 102 => ⟨S1x4x64x128, .f32⟩
  | 103 => ⟨S_, .i32⟩
  | 104 => ⟨S_, .i32⟩
  | 105 => ⟨S_, .i32⟩
  | 106 => ⟨S32x4x64x128, .f32⟩
  | 107 => ⟨S1x4x64x128, .f32⟩
  | 108 => ⟨S_, .i32⟩
  | 109 => ⟨S_, .i32⟩
  | 110 => ⟨S_, .i32⟩
  | 111 => ⟨S32x4x64x128, .f32⟩
  | 112 => ⟨S1x4x128, .f32⟩
  | 113 => ⟨S_, .i32⟩
  | 114 => ⟨S_, .i32⟩
  | 115 => ⟨S32x4x128, .f32⟩
  | 116 => ⟨S1x4x64x128, .f32⟩
  | 117 => ⟨S_, .i32⟩
  | 118 => ⟨S_, .i32⟩
  | 119 => ⟨S_, .i32⟩
  | 120 => ⟨S32x4x64x128, .f32⟩
  | 121 => ⟨S_, .i32⟩
  | 122 => ⟨S_, .i32⟩
  | 123 => ⟨S32x64x4x128, .f32⟩
  | 124 => ⟨S2048x512, .f32⟩
  | 125 => ⟨S32x64x4x128, .f32⟩
  | 126 => ⟨S2048x512, .f32⟩
  | 127 => ⟨S32x64x4x128, .f32⟩
  | _ => ⟨S2048x512, .f32⟩

abbrev hbmTy0_2 (i : Nat) : BufTy := match i % 128 with
  | 0 => ⟨S2048x512, .f32⟩
  | 1 => ⟨S32x64x4x128, .f32⟩
  | 2 => ⟨S2048x512, .f32⟩
  | 3 => ⟨S32x64x4x128, .f32⟩
  | 4 => ⟨S2048x512, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_c : Ref sig .tc := ⟨.hbm, 42, rfl⟩
abbrev main_v23_0 : Ref sig .tc := ⟨.hbm, 43, rfl⟩
abbrev main_v23_1 : Ref sig .tc := ⟨.hbm, 44, rfl⟩
abbrev main_v23_2 : Ref sig .tc := ⟨.hbm, 45, rfl⟩
abbrev main_v23_3 : Ref sig .tc := ⟨.hbm, 46, rfl⟩
abbrev main_v23_4 : Ref sig .tc := ⟨.hbm, 47, rfl⟩
abbrev main_v23_5 : Ref sig .tc := ⟨.hbm, 48, rfl⟩
abbrev main_v23_6 : Ref sig .tc := ⟨.hbm, 49, rfl⟩
abbrev main_v23_7 : Ref sig .tc := ⟨.hbm, 50, rfl⟩
abbrev main_v23_8 : Ref sig .tc := ⟨.hbm, 51, rfl⟩
abbrev main_v23_9 : Ref sig .tc := ⟨.hbm, 52, rfl⟩
abbrev main_v23_10 : Ref sig .tc := ⟨.hbm, 53, rfl⟩
abbrev main_v23_11 : Ref sig .tc := ⟨.hbm, 54, rfl⟩
abbrev main_v23_12 : Ref sig .tc := ⟨.hbm, 55, rfl⟩
abbrev main_v23_13 : Ref sig .tc := ⟨.hbm, 56, rfl⟩
abbrev main_v23_14 : Ref sig .tc := ⟨.hbm, 57, rfl⟩
abbrev main_v23_15 : Ref sig .tc := ⟨.hbm, 58, rfl⟩
abbrev main_v23_16 : Ref sig .tc := ⟨.hbm, 59, rfl⟩
abbrev main_v23_17 : Ref sig .tc := ⟨.hbm, 60, rfl⟩
abbrev main_v23_18 : Ref sig .tc := ⟨.hbm, 61, rfl⟩
abbrev main_v23_19 : Ref sig .tc := ⟨.hbm, 62, rfl⟩
abbrev main_while0c_c_27 : Ref sig .tc := ⟨.hbm, 63, rfl⟩
abbrev main_while0c_v34 : Ref sig .tc := ⟨.hbm, 64, rfl⟩
abbrev main_while0b_c_27 : Ref sig .tc := ⟨.hbm, 65, rfl⟩
abbrev main_while0b_v34 : Ref sig .tc := ⟨.hbm, 66, rfl⟩
abbrev main_while0b_c_28 : Ref sig .tc := ⟨.hbm, 67, rfl⟩
abbrev main_while0b_v35 : Ref sig .tc := ⟨.hbm, 68, rfl⟩
abbrev main_while0b_call0_c : Ref sig .tc := ⟨.hbm, 69, rfl⟩
abbrev main_while0b_call0_c_0 : Ref sig .tc := ⟨.hbm, 70, rfl⟩
abbrev main_while0b_call0_c_1 : Ref sig .tc := ⟨.hbm, 71, rfl⟩
abbrev main_while0b_call0_v0 : Ref sig .tc := ⟨.hbm, 72, rfl⟩
abbrev main_while0b_v36 : Ref sig .tc := ⟨.hbm, 73, rfl⟩
abbrev main_while0b_call1_c : Ref sig .tc := ⟨.hbm, 74, rfl⟩
abbrev main_while0b_call1_c_0 : Ref sig .tc := ⟨.hbm, 75, rfl⟩
abbrev main_while0b_call1_c_1 : Ref sig .tc := ⟨.hbm, 76, rfl⟩
abbrev main_while0b_call1_v0 : Ref sig .tc := ⟨.hbm, 77, rfl⟩
abbrev main_while0b_v37 : Ref sig .tc := ⟨.hbm, 78, rfl⟩
abbrev main_while0b_call2_c : Ref sig .tc := ⟨.hbm, 79, rfl⟩
abbrev main_while0b_call2_c_0 : Ref sig .tc := ⟨.hbm, 80, rfl⟩
abbrev main_while0b_call2_c_1 : Ref sig .tc := ⟨.hbm, 81, rfl⟩
abbrev main_while0b_call2_v0 : Ref sig .tc := ⟨.hbm, 82, rfl⟩
abbrev main_while0b_v38 : Ref sig .tc := ⟨.hbm, 83, rfl⟩
abbrev main_while0b_call3_c : Ref sig .tc := ⟨.hbm, 84, rfl⟩
abbrev main_while0b_call3_c_0 : Ref sig .tc := ⟨.hbm, 85, rfl⟩
abbrev main_while0b_call3_c_1 : Ref sig .tc := ⟨.hbm, 86, rfl⟩
abbrev main_while0b_call3_v0 : Ref sig .tc := ⟨.hbm, 87, rfl⟩
abbrev main_while0b_v39 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_v0 : Ref sig .tc := ⟨.hbm, 92, rfl⟩
abbrev main_while0b_v40 : Ref sig .tc := ⟨.hbm, 93, rfl⟩
abbrev main_while0b_call5_c : Ref sig .tc := ⟨.hbm, 94, rfl⟩
abbrev main_while0b_call5_c_0 : Ref sig .tc := ⟨.hbm, 95, rfl⟩
abbrev main_while0b_call5_c_1 : Ref sig .tc := ⟨.hbm, 96, rfl⟩
abbrev main_while0b_call5_v0 : Ref sig .tc := ⟨.hbm, 97, rfl⟩
abbrev main_while0b_v41 : Ref sig .tc := ⟨.hbm, 98, rfl⟩
abbrev main_while0b_call6_c : Ref sig .tc := ⟨.hbm, 99, rfl⟩
abbrev main_while0b_call6_c_0 : Ref sig .tc := ⟨.hbm, 100, rfl⟩
abbrev main_while0b_call6_c_1 : Ref sig .tc := ⟨.hbm, 101, rfl⟩
abbrev main_while0b_call6_v0 : Ref sig .tc := ⟨.hbm, 102, rfl⟩
abbrev main_while0b_v42 : Ref sig .tc := ⟨.hbm, 103, rfl⟩
abbrev main_while0b_call7_c : Ref sig .tc := ⟨.hbm, 104, rfl⟩
abbrev main_while0b_call7_c_0 : Ref sig .tc := ⟨.hbm, 105, rfl⟩
abbrev main_while0b_call7_v0 : Ref sig .tc := ⟨.hbm, 106, rfl⟩
abbrev main_while0b_v43 : Ref sig .tc := ⟨.hbm, 107, rfl⟩
abbrev main_while0b_call8_c : Ref sig .tc := ⟨.hbm, 108, rfl⟩
abbrev main_while0b_call8_c_0 : Ref sig .tc := ⟨.hbm, 109, rfl⟩
abbrev main_while0b_call8_c_1 : Ref sig .tc := ⟨.hbm, 110, rfl⟩
abbrev main_while0b_call8_v0 : Ref sig .tc := ⟨.hbm, 111, rfl⟩
abbrev main_while0b_v44 : Ref sig .tc := ⟨.hbm, 112, rfl⟩
abbrev main_while0b_v45 : Ref sig .tc := ⟨.hbm, 113, rfl⟩
abbrev main_while0b_v46 : Ref sig .tc := ⟨.hbm, 114, rfl⟩
abbrev main_while0b_v47 : Ref sig .tc := ⟨.hbm, 115, rfl⟩
abbrev main_while0b_v48 : Ref sig .tc := ⟨.hbm, 116, rfl⟩
abbrev main_while0b_v49 : Ref sig .tc := ⟨.hbm, 117, rfl⟩
abbrev main_while0b_v50 : Ref sig .tc := ⟨.hbm, 118, rfl⟩
abbrev main_while0b_v51 : Ref sig .tc := ⟨.hbm, 119, rfl⟩
abbrev main_while0b_v52 : Ref sig .tc := ⟨.hbm, 120, rfl⟩
abbrev main_while0b_v53 : Ref sig .tc := ⟨.hbm, 121, rfl⟩
abbrev main_while0b_v54 : Ref sig .tc := ⟨.hbm, 122, rfl⟩
abbrev main_while0b_v55 : Ref sig .tc := ⟨.hbm, 123, rfl⟩
abbrev main_while0b_cst_29 : Ref sig .tc := ⟨.hbm, 124, rfl⟩
abbrev main_while0b_v56 : Ref sig .tc := ⟨.hbm, 125, rfl⟩
abbrev main_while0b_v57 : Ref sig .tc := ⟨.hbm, 126, rfl⟩
abbrev main_while0b_cst_30 : Ref sig .tc := ⟨.hbm, 127, rfl⟩
abbrev main_while0b_v58 : Ref sig .tc := ⟨.hbm, 128, rfl⟩
abbrev main_while0b_v59 : Ref sig .tc := ⟨.hbm, 129, rfl⟩
abbrev main_while0b_cst_31 : Ref sig .tc := ⟨.hbm, 130, rfl⟩
abbrev main_while0b_v60 : Ref sig .tc := ⟨.hbm, 131, rfl⟩
abbrev main_while0b_v61 : Ref sig .tc := ⟨.hbm, 132, rfl⟩
abbrev main_while0b_v62 : Ref sig .tc := ⟨.hbm, 133, rfl⟩
abbrev main_while0b_v63 : Ref sig .tc := ⟨.hbm, 134, rfl⟩
abbrev main_while0b_cst_32 : Ref sig .tc := ⟨.hbm, 135, rfl⟩
abbrev main_while0b_v64 : Ref sig .tc := ⟨.hbm, 136, rfl⟩
abbrev main_while0b_v65 : Ref sig .tc := ⟨.hbm, 137, rfl⟩
abbrev main_while0b_v66 : Ref sig .tc := ⟨.hbm, 138, rfl⟩
abbrev main_while0b_v67 : Ref sig .tc := ⟨.hbm, 139, rfl⟩
abbrev main_while0b_v68 : Ref sig .tc := ⟨.hbm, 140, rfl⟩
abbrev main_while0b_v69 : Ref sig .tc := ⟨.hbm, 141, rfl⟩
abbrev main_while0b_v70 : Ref sig .tc := ⟨.hbm, 142, rfl⟩
abbrev main_while0b_call9_v0 : Ref sig .tc := ⟨.hbm, 143, rfl⟩
abbrev main_while0b_call9_v1 : Ref sig .tc := ⟨.hbm, 144, rfl⟩
abbrev main_while0b_call9_cst : Ref sig .tc := ⟨.hbm, 145, rfl⟩
abbrev main_while0b_call9_v2 : Ref sig .tc := ⟨.hbm, 146, rfl⟩
abbrev main_while0b_call9_v3 : Ref sig .tc := ⟨.hbm, 147, rfl⟩
abbrev main_while0b_call9_cst_0 : Ref sig .tc := ⟨.hbm, 148, rfl⟩
abbrev main_while0b_call9_v4 : Ref sig .tc := ⟨.hbm, 149, rfl⟩
abbrev main_while0b_v71_2 : Ref sig .tc := ⟨.hbm, 150, rfl⟩
abbrev main_while0b_call9_cst_1 : Ref sig .tc := ⟨.hbm, 151, rfl⟩
abbrev main_while0b_call9_v6 : Ref sig .tc := ⟨.hbm, 152, rfl⟩
abbrev main_while0b_call9_v7 : Ref sig .tc := ⟨.hbm, 153, rfl⟩
abbrev main_while0b_v71_1 : Ref sig .tc := ⟨.hbm, 154, rfl⟩
abbrev main_while0b_v71_0 : Ref sig .tc := ⟨.hbm, 155, rfl⟩
abbrev main_while0b_v72 : Ref sig .tc := ⟨.hbm, 156, rfl⟩
abbrev main_while0b_v73 : Ref sig .tc := ⟨.hbm, 157, rfl⟩
abbrev main_while0b_v74 : Ref sig .tc := ⟨.hbm, 158, rfl⟩
abbrev main_while0b_call10_v0 : Ref sig .tc := ⟨.hbm, 159, rfl⟩
abbrev main_while0b_call10_v1 : Ref sig .tc := ⟨.hbm, 160, rfl⟩
abbrev main_while0b_call10_v2 : Ref sig .tc := ⟨.hbm, 161, rfl⟩
abbrev main_while0b_v75 : Ref sig .tc := ⟨.hbm, 162, rfl⟩
abbrev main_while0b_v76 : Ref sig .tc := ⟨.hbm, 163, rfl⟩
abbrev main_while0b_cst_33 : Ref sig .tc := ⟨.hbm, 164, rfl⟩
abbrev main_while0b_v77 : Ref sig .tc := ⟨.hbm, 165, rfl⟩
abbrev main_while0b_v78 : Ref sig .tc := ⟨.hbm, 166, rfl⟩
abbrev main_while0b_v79 : Ref sig .tc := ⟨.hbm, 167, rfl⟩
abbrev main_while0b_v80 : Ref sig .tc := ⟨.hbm, 168, rfl⟩
abbrev main_while0b_cst_34 : Ref sig .tc := ⟨.hbm, 169, rfl⟩
abbrev main_while0b_v81 : Ref sig .tc := ⟨.hbm, 170, rfl⟩
abbrev main_while0b_v82 : Ref sig .tc := ⟨.hbm, 171, rfl⟩
abbrev main_while0b_v83 : Ref sig .tc := ⟨.hbm, 172, rfl⟩
abbrev main_while0b_cst_35 : Ref sig .tc := ⟨.hbm, 173, rfl⟩
abbrev main_while0b_v84 : Ref sig .tc := ⟨.hbm, 174, rfl⟩
abbrev main_while0b_v85 : Ref sig .tc := ⟨.hbm, 175, rfl⟩
abbrev main_while0b_v86 : Ref sig .tc := ⟨.hbm, 176, rfl⟩
abbrev main_while0b_v87 : Ref sig .tc := ⟨.hbm, 177, rfl⟩
abbrev main_while0b_v88 : Ref sig .tc := ⟨.hbm, 178, rfl⟩
abbrev main_while0b_cst_36 : Ref sig .tc := ⟨.hbm, 179, rfl⟩
abbrev main_while0b_v89 : Ref sig .tc := ⟨.hbm, 180, rfl⟩
abbrev main_while0b_v90 : Ref sig .tc := ⟨.hbm, 181, rfl⟩
abbrev main_while0b_cst_37 : Ref sig .tc := ⟨.hbm, 182, rfl⟩
abbrev main_while0b_v91 : Ref sig .tc := ⟨.hbm, 183, rfl⟩
abbrev main_while0b_v92 : Ref sig .tc := ⟨.hbm, 184, rfl⟩
abbrev main_while0b_v93 : Ref sig .tc := ⟨.hbm, 185, rfl⟩
abbrev main_while0b_v94 : Ref sig .tc := ⟨.hbm, 186, rfl⟩
abbrev main_while0b_v95 : Ref sig .tc := ⟨.hbm, 187, rfl⟩
abbrev main_while0b_v96 : Ref sig .tc := ⟨.hbm, 188, rfl⟩
abbrev main_while0b_v97 : Ref sig .tc := ⟨.hbm, 189, rfl⟩
abbrev main_while0b_v98 : Ref sig .tc := ⟨.hbm, 190, rfl⟩
abbrev main_while0b_v99 : Ref sig .tc := ⟨.hbm, 191, rfl⟩
abbrev main_while0b_v100 : Ref sig .tc := ⟨.hbm, 192, rfl⟩
abbrev main_while0b_v101 : Ref sig .tc := ⟨.hbm, 193, rfl⟩
abbrev main_while0b_cst_38 : Ref sig .tc := ⟨.hbm, 194, rfl⟩
abbrev main_while0b_v102 : Ref sig .tc := ⟨.hbm, 195, rfl⟩
abbrev main_while0b_v103 : Ref sig .tc := ⟨.hbm, 196, rfl⟩
abbrev main_while0b_v104 : Ref sig .tc := ⟨.hbm, 197, rfl⟩
abbrev main_while0b_v105 : Ref sig .tc := ⟨.hbm, 198, rfl⟩
abbrev main_while0b_cst_39 : Ref sig .tc := ⟨.hbm, 199, rfl⟩
abbrev main_while0b_v106 : Ref sig .tc := ⟨.hbm, 200, rfl⟩
abbrev main_while0b_v107 : Ref sig .tc := ⟨.hbm, 201, rfl⟩
abbrev main_while0b_v108 : Ref sig .tc := ⟨.hbm, 202, rfl⟩
abbrev main_while0b_v109 : Ref sig .tc := ⟨.hbm, 203, rfl⟩
abbrev main_while0b_v110 : Ref sig .tc := ⟨.hbm, 204, rfl⟩
abbrev main_while0b_v111 : Ref sig .tc := ⟨.hbm, 205, rfl⟩
abbrev main_while0b_v112 : Ref sig .tc := ⟨.hbm, 206, rfl⟩
abbrev main_while0b_v113 : Ref sig .tc := ⟨.hbm, 207, rfl⟩
abbrev main_while0b_v114 : Ref sig .tc := ⟨.hbm, 208, rfl⟩
abbrev main_while0b_v115 : Ref sig .tc := ⟨.hbm, 209, rfl⟩
abbrev main_while0b_v116 : Ref sig .tc := ⟨.hbm, 210, rfl⟩
abbrev main_while0b_v117 : Ref sig .tc := ⟨.hbm, 211, rfl⟩
abbrev main_while0b_v118 : Ref sig .tc := ⟨.hbm, 212, rfl⟩
abbrev main_while0b_v119 : Ref sig .tc := ⟨.hbm, 213, rfl⟩
abbrev main_while0b_v120 : Ref sig .tc := ⟨.hbm, 214, rfl⟩
abbrev main_while0b_call11_v0 : Ref sig .tc := ⟨.hbm, 215, rfl⟩
abbrev main_while0b_call11_c : Ref sig .tc := ⟨.hbm, 216, rfl⟩
abbrev main_while0b_call11_c_0 : Ref sig .tc := ⟨.hbm, 217, rfl⟩
abbrev main_while0b_call11_c_1 : Ref sig .tc := ⟨.hbm, 218, rfl⟩
abbrev main_while0b_v121 : Ref sig .tc := ⟨.hbm, 219, rfl⟩
abbrev main_while0b_call12_v0 : Ref sig .tc := ⟨.hbm, 220, rfl⟩
abbrev main_while0b_call12_c : Ref sig .tc := ⟨.hbm, 221, rfl⟩
abbrev main_while0b_call12_c_0 : Ref sig .tc := ⟨.hbm, 222, rfl⟩
abbrev main_while0b_call12_c_1 : Ref sig .tc := ⟨.hbm, 223, rfl⟩
abbrev main_while0b_v122 : Ref sig .tc := ⟨.hbm, 224, rfl⟩
abbrev main_while0b_call13_v0 : Ref sig .tc := ⟨.hbm, 225, rfl⟩
abbrev main_while0b_call13_c : Ref sig .tc := ⟨.hbm, 226, rfl⟩
abbrev main_while0b_call13_c_0 : Ref sig .tc := ⟨.hbm, 227, rfl⟩
abbrev main_while0b_call13_c_1 : Ref sig .tc := ⟨.hbm, 228, rfl⟩
abbrev main_while0b_v123 : Ref sig .tc := ⟨.hbm, 229, rfl⟩
abbrev main_while0b_call14_v0 : Ref sig .tc := ⟨.hbm, 230, rfl⟩
abbrev main_while0b_call14_c : Ref sig .tc := ⟨.hbm, 231, rfl⟩
abbrev main_while0b_call14_c_0 : Ref sig .tc := ⟨.hbm, 232, rfl⟩
abbrev main_while0b_call14_c_1 : Ref sig .tc := ⟨.hbm, 233, rfl⟩
abbrev main_while0b_v124 : Ref sig .tc := ⟨.hbm, 234, rfl⟩
abbrev main_while0b_call15_v0 : Ref sig .tc := ⟨.hbm, 235, rfl⟩
abbrev main_while0b_call15_c : Ref sig .tc := ⟨.hbm, 236, rfl⟩
abbrev main_while0b_call15_c_0 : Ref sig .tc := ⟨.hbm, 237, rfl⟩
abbrev main_while0b_call15_c_1 : Ref sig .tc := ⟨.hbm, 238, rfl⟩
abbrev main_while0b_v125 : Ref sig .tc := ⟨.hbm, 239, rfl⟩
abbrev main_while0b_call16_v0 : Ref sig .tc := ⟨.hbm, 240, rfl⟩
abbrev main_while0b_call16_c : Ref sig .tc := ⟨.hbm, 241, rfl⟩
abbrev main_while0b_call16_c_0 : Ref sig .tc := ⟨.hbm, 242, rfl⟩
abbrev main_while0b_v126 : Ref sig .tc := ⟨.hbm, 243, rfl⟩
abbrev main_while0b_call17_v0 : Ref sig .tc := ⟨.hbm, 244, rfl⟩
abbrev main_while0b_call17_c : Ref sig .tc := ⟨.hbm, 245, rfl⟩
abbrev main_while0b_call17_c_0 : Ref sig .tc := ⟨.hbm, 246, rfl⟩
abbrev main_while0b_call17_c_1 : Ref sig .tc := ⟨.hbm, 247, rfl⟩
abbrev main_while0b_v127 : Ref sig .tc := ⟨.hbm, 248, rfl⟩
abbrev main_while0b_c_40 : Ref sig .tc := ⟨.hbm, 249, rfl⟩
abbrev main_while0b_v128 : Ref sig .tc := ⟨.hbm, 250, rfl⟩
abbrev main_v24 : Ref sig .tc := ⟨.hbm, 251, rfl⟩
abbrev main_v25 : Ref sig .tc := ⟨.hbm, 252, rfl⟩
abbrev main_v26 : Ref sig .tc := ⟨.hbm, 253, rfl⟩
abbrev main_v27 : Ref sig .tc := ⟨.hbm, 254, rfl⟩
abbrev main_v28 : Ref sig .tc := ⟨.hbm, 255, rfl⟩
abbrev main_v29 : Ref sig .tc := ⟨.hbm, 256, rfl⟩
abbrev main_v30 : Ref sig .tc := ⟨.hbm, 257, rfl⟩
abbrev main_v31 : Ref sig .tc := ⟨.hbm, 258, rfl⟩
abbrev main_v32 : Ref sig .tc := ⟨.hbm, 259, rfl⟩
abbrev main_v33 : Ref sig .tc := ⟨.hbm, 260, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S2048x512 : Shape := ⟨2, ![2048, 512]⟩
abbrev S32x4x64x64 : Shape := ⟨4, ![32, 4, 64, 64]⟩
abbrev S32x4x128 : Shape := ⟨3, ![32, 4, 128]⟩
abbrev S2048x4224 : Shape := ⟨2, ![2048, 4224]⟩
abbrev S1x128 : Shape := ⟨2, ![1, 128]⟩
abbrev S32x4x128x128 : Shape := ⟨4, ![32, 4, 128, 128]⟩
abbrev S64x512 : Shape := ⟨2, ![64, 512]⟩
abbrev S1x4x64x64 : Shape := ⟨4, ![1, 4, 64, 64]⟩
abbrev S1x4x128 : Shape := ⟨3, ![1, 4, 128]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x1x64x64 : Shape := ⟨4, ![1, 1, 64, 64]⟩
abbrev S64x64 : Shape := ⟨2, ![64, 64]⟩
abbrev S1x1x128 : Shape := ⟨3, ![1, 1, 128]⟩
abbrev S64 : Shape := ⟨1, ![64]⟩
abbrev S64x1 : Shape := ⟨2, ![64, 1]⟩

abbrev nBuf : Space → Nat
  | .hbm => 10
  | .vmem => 20
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S32x4x64x64, .f32⟩
  | .hbm, ⟨5, _⟩ => ⟨S32x4x128, .f32⟩
  | .hbm, ⟨6, _⟩ => ⟨S2048x4224, .f32⟩
  | .hbm, ⟨7, _⟩ => ⟨S1x128, .f32⟩
  | .hbm, ⟨8, _⟩ => ⟨S2048x512, .bf16⟩
  | .hbm, ⟨9, _⟩ => ⟨S32x4x128x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S1x4x64x64, .f32⟩
  | .local _ .vmem, ⟨9, _⟩ => ⟨S1x4x64x64, .f32⟩
  | .local _ .vmem, ⟨10, _⟩ => ⟨S1x4x128, .f32⟩
  | .local _ .vmem, ⟨11, _⟩ => ⟨S1x4x128, .f32⟩
  | .local _ .vmem, ⟨12, _⟩ => ⟨S64x512, .f32⟩
  | .local _ .vmem, ⟨13, _⟩ => ⟨S64x512, .f32⟩
  | .local _ .vmem, ⟨14, _⟩ => ⟨S1x128, .f32⟩
  | .local _ .vmem, ⟨15, _⟩ => ⟨S64x512, .bf16⟩
  | .local _ .vmem, ⟨16, _⟩ => ⟨S64x512, .bf16⟩
  | .local _ .vmem, ⟨17, _⟩ => ⟨S1x4x128x128, .f32⟩
  | .local _ .vmem, ⟨18, _⟩ => ⟨S1x4x128x128, .f32⟩
  | .local _ .vmem, ⟨19, _⟩ => ⟨S4x128x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2048x512 : Shape := ⟨2, ![2048, 512]⟩
abbrev S32x4x64x64 : Shape := ⟨4, ![32, 4, 64, 64]⟩
abbrev S32x4x128 : Shape := ⟨3, ![32, 4, 128]⟩
abbrev S2048x4224 : Shape := ⟨2, ![2048, 4224]⟩
abbrev S1x128 : Shape := ⟨2, ![1, 128]⟩
abbrev S32x64x4x128 : Shape := ⟨4, ![32, 64, 4, 128]⟩
abbrev S32x4x64x128 : Shape := ⟨4, ![32, 4, 64, 128]⟩
abbrev S_ : Shape := ⟨0, ![]⟩
abbrev S4x128x128 : Shape := ⟨3, ![4, 128, 128]⟩
abbrev S32x4x128x128 : Shape := ⟨4, ![32, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x128 : Shape := ⟨3, ![1, 4, 128]⟩
abbrev S4x128 : Shape := ⟨2, ![4, 128]⟩
abbrev S4x1x128 : Shape := ⟨3, ![4, 1, 128]⟩
abbrev S4x64 : Shape := ⟨2, ![4, 64]⟩
abbrev S4x64x1 : Shape := ⟨3, ![4, 64, 1]⟩
abbrev S1x1x128 : Shape := ⟨3, ![1, 1, 128]⟩
abbrev S1x4x128x128 : Shape := ⟨4, ![1, 4, 128, 128]⟩

abbrev nBuf : Space → Nat
  | .hbm => 125
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S32x4x64x64, .f32⟩
  | .hbm, ⟨5, _⟩ => ⟨S32x4x128, .f32⟩
  | .hbm, ⟨6, _⟩ => ⟨S2048x4224, .f32⟩
  | .hbm, ⟨7, _⟩ => ⟨S1x128, .f32⟩
  | .hbm, ⟨8, _⟩ => ⟨S32x64x4x128, .f32⟩
  | .hbm, ⟨9, _⟩ => ⟨S32x4x64x128, .f32⟩
  | .hbm, ⟨10, _⟩ => ⟨S32x64x4x128, .f32⟩
  | .hbm, ⟨11, _⟩ => ⟨S32x4x64x128, .f32⟩
  | .hbm, ⟨12, _⟩ => ⟨S32x64x4x128, .f32⟩
  | .hbm, ⟨13, _⟩ => ⟨S32x4x64x128, .f32⟩
  | .hbm, ⟨14, _⟩ => ⟨S32x64x4x128, .f32⟩
  | .hbm, ⟨15, _⟩ => ⟨S32x4x64x128, .f32⟩
  | .hbm, ⟨16, _⟩ => ⟨S2048x512, .f32⟩
  | .hbm, ⟨17, _⟩ => ⟨S32x64x4x128, .f32⟩
  | .hbm, ⟨18, _⟩ => ⟨S32x4x64x128, .f32⟩
  | .hbm, ⟨19, _⟩ => ⟨S_, .f32⟩
  | .hbm, ⟨20, _⟩ => ⟨S4x128x128, .f32⟩
  | .hbm, ⟨21, _⟩ => ⟨S_, .f32⟩
  | .hbm, ⟨22, _⟩ => ⟨S32x4x64x128, .f32⟩
  | .hbm, ⟨23, _⟩ => ⟨S_, .f32⟩
  | .hbm, ⟨24, _⟩ => ⟨S32x4x128x128, .f32⟩
  | .hbm, ⟨25, _⟩ => ⟨S_, .i32⟩
  | .hbm, ⟨26, _⟩ => ⟨S32x4x64x128, .f32⟩
  | .hbm, ⟨27, _⟩ => ⟨S32x4x64x128, .f32⟩
  | .hbm, ⟨28, _⟩ => ⟨S32x4x64x64, .f32⟩
  | .hbm, ⟨29, _⟩ => ⟨S32x4x64x128, .f32⟩
  | .hbm, ⟨30, _⟩ => ⟨S32x4x64x128, .f32⟩
  | .hbm, ⟨31, _⟩ => ⟨S32x4x128, .f32⟩
  | .hbm, ⟨32, _⟩ => ⟨S32x4x64x128, .f32⟩
  | .hbm, ⟨33, _⟩ => ⟨S1x128, .f32⟩
  | .hbm, ⟨34, _⟩ => ⟨S_, .i32⟩
  | .hbm, ⟨35, _⟩ => ⟨S4x128x128, .f32⟩
  | .hbm, ⟨36, _⟩ => ⟨S32x4x64x128, .f32⟩
  | .hbm, ⟨37, _⟩ => ⟨S32x4x128x128, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x4x64x128, .f32⟩
  | .hbm, ⟨44, _⟩ => ⟨S4x64x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x4x64x128, .f32⟩
  | .hbm, ⟨49, _⟩ => ⟨S4x64x128, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x4x64x64, .f32⟩
  | .hbm, ⟨54, _⟩ => ⟨S4x64x64, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x4x64x128, .f32⟩
  | .hbm, ⟨59, _⟩ => ⟨S4x64x128, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x4x64x128, .f32⟩
  | .hbm, ⟨64, _⟩ => ⟨S4x64x128, .f32⟩
  | .hbm, ⟨65, _⟩ => ⟨S_, .i32⟩
  | .hbm, ⟨66, _⟩ => ⟨S_, .i32⟩
  | .hbm, ⟨67, _⟩ => ⟨S1x4x128, .f32⟩
  | .hbm, ⟨68, _⟩ => ⟨S4x128, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x4x64x128, .f32⟩
  | .hbm, ⟨73, _⟩ => ⟨S4x64x128, .f32⟩
  | .hbm, ⟨74, _⟩ => ⟨S4x64x128, .f32⟩
  | .hbm, ⟨75, _⟩ => ⟨S4x64x128, .f32⟩
  | .hbm, ⟨76, _⟩ => ⟨S4x64x128, .f32⟩
  | .hbm, ⟨77, _⟩ => ⟨S4x64x128, .f32⟩
  | .hbm, ⟨78, _⟩ => ⟨S4x64x128, .f32⟩
  | .hbm, ⟨79, _⟩ => ⟨S4x1x128, .f32⟩
  | .hbm, ⟨80, _⟩ => ⟨S4x128x128, .f32⟩
  | .hbm, ⟨81, _⟩ => ⟨S4x128x128, .f32⟩
  | .hbm, ⟨82, _⟩ => ⟨S4x128x128, .f32⟩
  | .hbm, ⟨83, _⟩ => ⟨S4x128x128, .f32⟩
  | .hbm, ⟨84, _⟩ => ⟨S4x64x128, .f32⟩
  | .hbm, ⟨85, _⟩ => ⟨S_, .f32⟩
  | .hbm, ⟨86, _⟩ => ⟨S4x64, .f32⟩
  | .hbm, ⟨87, _⟩ => ⟨S4x64x1, .f32⟩
  | .hbm, ⟨88, _⟩ => ⟨S_, .f32⟩
  | .hbm, ⟨89, _⟩ => ⟨S4x64x1, .f32⟩
  | .hbm, ⟨90, _⟩ => ⟨S4x64x1, .f32⟩
  | .hbm, ⟨91, _⟩ => ⟨S_, .f32⟩
  | .hbm, ⟨92, _⟩ => ⟨S4x64x1, .f32⟩
  | .hbm, ⟨93, _⟩ => ⟨S4x64x1, .f32⟩
  | .hbm, ⟨94, _⟩ => ⟨S4x64x1, .f32⟩
  | .hbm, ⟨95, _⟩ => ⟨S4x64x128, .f32⟩
  | .hbm, ⟨96, _⟩ => ⟨S4x64x128, .f32⟩
  | .hbm, ⟨97, _⟩ => ⟨S1x1x128, .f32⟩
  | .hbm, ⟨98, _⟩ => ⟨S4x64x128, .f32⟩
  | .hbm, ⟨99, _⟩ => ⟨S4x64x128, .f32⟩
  | .hbm, ⟨100, _⟩ => ⟨S4x64x128, .f32⟩
  | .hbm, ⟨101, _⟩ => ⟨S4x64x128, .f32⟩
  | .hbm, ⟨102, _⟩ => ⟨S_, .f32⟩
  | .hbm, ⟨103, _⟩ => ⟨S4x64x128, .f32⟩
  | .hbm, ⟨104, _⟩ => ⟨S4x64x128, .f32⟩
  | .hbm, ⟨105, _⟩ => ⟨S_, .f32⟩
  | .hbm, ⟨106, _⟩ => ⟨S4x64x128, .f32⟩
  | .hbm, ⟨107, _⟩ => ⟨S4x64x128, .f32⟩
  | .hbm, ⟨108, _⟩ => ⟨S4x64x128, .f32⟩
  | .hbm, ⟨109, _⟩ => ⟨S4x64x128, .f32⟩
  | .hbm, ⟨110, _⟩ => ⟨S1x4x64x128, .f32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S32x4x64x128, .f32⟩
  | .hbm, ⟨115, _⟩ => ⟨S1x4x128x128, .f32⟩
  | .hbm, ⟨116, _⟩ => ⟨S_, .i32⟩
  | .hbm, ⟨117, _⟩ => ⟨S_, .i32⟩
  | .hbm, ⟨118, _⟩ => ⟨S_, .i32⟩
  | .hbm, ⟨119, _⟩ => ⟨S32x4x128x128, .f32⟩
  | .hbm, ⟨120, _⟩ => ⟨S_, .i32⟩
  | .hbm, ⟨121, _⟩ => ⟨S_, .i32⟩
  | .hbm, ⟨122, _⟩ => ⟨S32x64x4x128, .f32⟩
  | .hbm, ⟨123, _⟩ => ⟨S2048x512, .f32⟩
  | .hbm, ⟨124, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_c : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v14_4 : Ref sig .tc := ⟨.hbm, 30, rfl⟩
abbrev main_v14_5 : Ref sig .tc := ⟨.hbm, 31, rfl⟩
abbrev main_v14_6 : Ref sig .tc := ⟨.hbm, 32, rfl⟩
abbrev main_v14_7 : Ref sig .tc := ⟨.hbm, 33, rfl⟩
abbrev main_v14_8 : Ref sig .tc := ⟨.hbm, 34, rfl⟩
abbrev main_v14_9 : Ref sig .tc := ⟨.hbm, 35, rfl⟩
abbrev main_v14_10 : Ref sig .tc := ⟨.hbm, 36, rfl⟩
abbrev main_v14_11 : Ref sig .tc := ⟨.hbm, 37, rfl⟩
abbrev main_while0c_c_13 : Ref sig .tc := ⟨.hbm, 38, rfl⟩
abbrev main_while0c_v18 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_v0 : Ref sig .tc := ⟨.hbm, 43, rfl⟩
abbrev main_while0b_v18 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_v0 : Ref sig .tc := ⟨.hbm, 48, rfl⟩
abbrev main_while0b_v19 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_v0 : Ref sig .tc := ⟨.hbm, 53, rfl⟩
abbrev main_while0b_v20 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_v0 : Ref sig .tc := ⟨.hbm, 58, rfl⟩
abbrev main_while0b_v21 : Ref sig .tc := ⟨.hbm, 59, rfl⟩
abbrev main_while0b_call4_c : Ref sig .tc := ⟨.hbm, 60, rfl⟩
abbrev main_while0b_call4_c_0 : Ref sig .tc := ⟨.hbm, 61, rfl⟩
abbrev main_while0b_call4_c_1 : Ref sig .tc := ⟨.hbm, 62, rfl⟩
abbrev main_while0b_call4_v0 : Ref sig .tc := ⟨.hbm, 63, rfl⟩
abbrev main_while0b_v22 : Ref sig .tc := ⟨.hbm, 64, rfl⟩
abbrev main_while0b_call5_c : Ref sig .tc := ⟨.hbm, 65, rfl⟩
abbrev main_while0b_call5_c_0 : Ref sig .tc := ⟨.hbm, 66, rfl⟩
abbrev main_while0b_call5_v0 : Ref sig .tc := ⟨.hbm, 67, rfl⟩
abbrev main_while0b_v23 : Ref sig .tc := ⟨.hbm, 68, rfl⟩
abbrev main_while0b_call6_c : Ref sig .tc := ⟨.hbm, 69, rfl⟩
abbrev main_while0b_call6_c_0 : Ref sig .tc := ⟨.hbm, 70, rfl⟩
abbrev main_while0b_call6_c_1 : Ref sig .tc := ⟨.hbm, 71, rfl⟩
abbrev main_while0b_call6_v0 : Ref sig .tc := ⟨.hbm, 72, rfl⟩
abbrev main_while0b_v24 : Ref sig .tc := ⟨.hbm, 73, rfl⟩
abbrev main_while0b_v25 : Ref sig .tc := ⟨.hbm, 74, rfl⟩
abbrev main_while0b_v26 : Ref sig .tc := ⟨.hbm, 75, rfl⟩
abbrev main_while0b_v27 : Ref sig .tc := ⟨.hbm, 76, rfl⟩
abbrev main_while0b_v28 : Ref sig .tc := ⟨.hbm, 77, rfl⟩
abbrev main_while0b_v29 : Ref sig .tc := ⟨.hbm, 78, rfl⟩
abbrev main_while0b_v30 : Ref sig .tc := ⟨.hbm, 79, rfl⟩
abbrev main_while0b_v31 : Ref sig .tc := ⟨.hbm, 80, rfl⟩
abbrev main_while0b_v32 : Ref sig .tc := ⟨.hbm, 81, rfl⟩
abbrev main_while0b_v33 : Ref sig .tc := ⟨.hbm, 82, rfl⟩
abbrev main_while0b_v34 : Ref sig .tc := ⟨.hbm, 83, rfl⟩
abbrev main_while0b_v35 : Ref sig .tc := ⟨.hbm, 84, rfl⟩
abbrev main_while0b_cst_13 : Ref sig .tc := ⟨.hbm, 85, rfl⟩
abbrev main_while0b_v36 : Ref sig .tc := ⟨.hbm, 86, rfl⟩
abbrev main_while0b_v37 : Ref sig .tc := ⟨.hbm, 87, rfl⟩
abbrev main_while0b_cst_14 : Ref sig .tc := ⟨.hbm, 88, rfl⟩
abbrev main_while0b_v38 : Ref sig .tc := ⟨.hbm, 89, rfl⟩
abbrev main_while0b_v39 : Ref sig .tc := ⟨.hbm, 90, rfl⟩
abbrev main_while0b_cst_15 : Ref sig .tc := ⟨.hbm, 91, rfl⟩
abbrev main_while0b_v40 : Ref sig .tc := ⟨.hbm, 92, rfl⟩
abbrev main_while0b_v41 : Ref sig .tc := ⟨.hbm, 93, rfl⟩
abbrev main_while0b_v42 : Ref sig .tc := ⟨.hbm, 94, rfl⟩
abbrev main_while0b_v43 : Ref sig .tc := ⟨.hbm, 95, rfl⟩
abbrev main_while0b_v44 : Ref sig .tc := ⟨.hbm, 96, rfl⟩
abbrev main_while0b_v45 : Ref sig .tc := ⟨.hbm, 97, rfl⟩
abbrev main_while0b_v46 : Ref sig .tc := ⟨.hbm, 98, rfl⟩
abbrev main_while0b_v47 : Ref sig .tc := ⟨.hbm, 99, rfl⟩
abbrev main_while0b_call7_v0 : Ref sig .tc := ⟨.hbm, 100, rfl⟩
abbrev main_while0b_call7_v1 : Ref sig .tc := ⟨.hbm, 101, rfl⟩
abbrev main_while0b_call7_cst : Ref sig .tc := ⟨.hbm, 102, rfl⟩
abbrev main_while0b_call7_v2 : Ref sig .tc := ⟨.hbm, 103, rfl⟩
abbrev main_while0b_call7_v3 : Ref sig .tc := ⟨.hbm, 104, rfl⟩
abbrev main_while0b_call7_cst_0 : Ref sig .tc := ⟨.hbm, 105, rfl⟩
abbrev main_while0b_call7_v4 : Ref sig .tc := ⟨.hbm, 106, rfl⟩
abbrev main_while0b_call7_v5 : Ref sig .tc := ⟨.hbm, 107, rfl⟩
abbrev main_while0b_v48 : Ref sig .tc := ⟨.hbm, 108, rfl⟩
abbrev main_while0b_v49 : Ref sig .tc := ⟨.hbm, 109, rfl⟩
abbrev main_while0b_call8_v0 : Ref sig .tc := ⟨.hbm, 110, rfl⟩
abbrev main_while0b_call8_c : Ref sig .tc := ⟨.hbm, 111, rfl⟩
abbrev main_while0b_call8_c_0 : Ref sig .tc := ⟨.hbm, 112, rfl⟩
abbrev main_while0b_call8_c_1 : Ref sig .tc := ⟨.hbm, 113, rfl⟩
abbrev main_while0b_v50 : Ref sig .tc := ⟨.hbm, 114, rfl⟩
abbrev main_while0b_call9_v0 : Ref sig .tc := ⟨.hbm, 115, rfl⟩
abbrev main_while0b_call9_c : Ref sig .tc := ⟨.hbm, 116, rfl⟩
abbrev main_while0b_call9_c_0 : Ref sig .tc := ⟨.hbm, 117, rfl⟩
abbrev main_while0b_call9_c_1 : Ref sig .tc := ⟨.hbm, 118, rfl⟩
abbrev main_while0b_v51 : Ref sig .tc := ⟨.hbm, 119, rfl⟩
abbrev main_while0b_c_16 : Ref sig .tc := ⟨.hbm, 120, rfl⟩
abbrev main_while0b_v52 : Ref sig .tc := ⟨.hbm, 121, rfl⟩
abbrev main_v15 : Ref sig .tc := ⟨.hbm, 122, rfl⟩
abbrev main_v16 : Ref sig .tc := ⟨.hbm, 123, rfl⟩
abbrev main_v17 : Ref sig .tc := ⟨.hbm, 124, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S256x5632 : Shape := ⟨2, ![256, 5632]⟩
abbrev S256x1024 : Shape := ⟨2, ![256, 1024]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x4x1408, .bf16⟩
  | .hbm, ⟨6, _⟩ => ⟨S4x1024x1408, .bf16⟩
  | .hbm, ⟨7, _⟩ => ⟨S2048x1024, .f32⟩
  | .hbm, ⟨8, _⟩ => ⟨S2048x1024, .bf16⟩
  | .hbm, ⟨9, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1024x5632, .f32⟩
  | .hbm, ⟨25, _⟩ => ⟨S2048x5632, .f32⟩
  | .hbm, ⟨26, _⟩ => ⟨S2048x5632, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel4.lean ====
abbrev S2048x1024 : Shape := ⟨2, ![2048, 1024]⟩
abbrev S2048x5632 : Shape := ⟨2, ![2048, 5632]⟩
abbrev S4x1024x1408 : Shape := ⟨3, ![4, 1024, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S4x1024x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .bf16⟩
  | .local _ .vmem, ⟨5, _⟩ => ⟨S1x512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S_, .f32⟩
  | .hbm, ⟨3, _⟩ => ⟨S1024x5632, .f32⟩
  | .hbm, ⟨4, _⟩ => ⟨S2048x1024, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S2048x2816, .f32⟩
  | .hbm, ⟨8, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x1024 : Shape := ⟨2, ![2048, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S1024x4x1408, .bf16⟩
  | .hbm, ⟨3, _⟩ => ⟨S4x1024x1408, .bf16⟩
  | .hbm, ⟨4, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | .hbm, ⟨5, _⟩ => ⟨S2048x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x2816, .f32⟩
  | .hbm, ⟨5, _⟩ => ⟨S2816x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel9.lean ====
abbrev S2048x2816 : Shape := ⟨2, ![2048, 2816]⟩
abbrev S2048x5632 : Shape := ⟨2, ![2048, 5632]⟩
abbrev S3x2816 : Shape := ⟨2, ![3, 2816]⟩
abbrev S8x2816 : Shape := ⟨2, ![8, 2816]⟩
abbrev S1x2816 : Shape := ⟨2, ![1, 2816]⟩
abbrev S256x1408 : Shape := ⟨2, ![256, 1408]⟩
abbrev S16x1408 : Shape := ⟨2, ![16, 1408]⟩
abbrev S3x1408 : Shape := ⟨2, ![3, 1408]⟩
abbrev S8x1408 : Shape := ⟨2, ![8, 1408]⟩
abbrev S1x1408 : Shape := ⟨2, ![1, 1408]⟩
abbrev S264x1408 : Shape := ⟨2, ![264, 1408]⟩
abbrev S1408 : Shape := ⟨1, ![1408]⟩

abbrev nBuf : Space → Nat
  | .hbm => 7
  | .vmem => 18
  | .smem => 0
  | _ => 0

abbrev bufTy : (tb : Table) → Fin (tcTables nBuf tb) → BufTy
  | .hbm, ⟨0, _⟩ => ⟨S2048x2816, .bf16⟩
  | .hbm, ⟨1, _⟩ => ⟨S2048x5632, .bf16⟩
  | .hbm, ⟨2, _⟩ => ⟨S3x2816, .f32⟩
  | .hbm, ⟨3, _⟩ => ⟨S2048x5632, .bf16⟩
  | .hbm, ⟨4, _⟩ => ⟨S2048x5632, .bf16⟩
  | .hbm, ⟨5, _⟩ => ⟨S8x2816, .f32⟩
  | .hbm, ⟨6, _⟩ => ⟨S1x2816, .f32⟩
  | .local _ .vmem, ⟨0, _⟩ => ⟨S256x1408, .bf16⟩
  | .local _ .vmem, ⟨1, _⟩ => ⟨S256x1408, .bf16⟩
  | .local _ .vmem, ⟨2, _⟩ => ⟨S16x1408, .bf16⟩
  | .local _ .vmem, ⟨3, _⟩ => ⟨S16x1408, .bf16⟩
  | .local _ .vmem, ⟨4, _⟩ => ⟨S256x1408, .bf16⟩
  | .local _ .vmem, ⟨5, _⟩ => ⟨S256x1408, .bf16⟩
  | .local _ .vmem, ⟨6, _⟩ => ⟨S16x1408, .bf16⟩
  | .local _ .vmem, ⟨7, _⟩ => ⟨S16x1408, .bf16⟩
  | .local _ .vmem, ⟨8, _⟩ => ⟨S3x1408, .f32⟩
  | .local _ .vmem, ⟨9, _⟩ => ⟨S3x1408, .f32⟩
  | .local _ .vmem, ⟨10, _⟩ => ⟨S256x1408, .bf16⟩
  | .local _ .vmem, ⟨11, _⟩ => ⟨S256x1408, .bf16⟩
  | .local _ .vmem, ⟨12, _⟩ => ⟨S8x1408, .f32⟩
  | .local _ .vmem, ⟨13, _⟩ => ⟨S8x1408, .f32⟩
  | .local _ .vmem, ⟨14, _⟩ => ⟨S1x1408, .f32⟩
  | .local _ .vmem, ⟨15, _⟩ => ⟨S1x1408, .f32⟩
  | .local _ .vmem, ⟨16, _⟩ => ⟨S264x1408, .f32⟩
  | .local _ .vmem, ⟨17, _⟩ => ⟨S264x1408, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference9Ideal.lean ====
abbrev S2048x2816 : Shape := ⟨2, ![2048, 2816]⟩
abbrev S2048x5632 : Shape := ⟨2, ![2048, 5632]⟩
abbrev S3x2816 : Shape := ⟨2, ![3, 2816]⟩
abbrev S_ : Shape := ⟨0, ![]⟩
abbrev S1x2816 : Shape := ⟨2, ![1, 2816]⟩
abbrev S2x2816 : Shape := ⟨2, ![2, 2816]⟩
abbrev S2046x2816 : Shape := ⟨2, ![2046, 2816]⟩
abbrev S2047x2816 : Shape := ⟨2, ![2047, 2816]⟩
abbrev S2816 : Shape := ⟨1, ![2816]⟩
abbrev S5x2816 : Shape := ⟨2, ![5, 2816]⟩
abbrev S8x2816 : Shape := ⟨2, ![8, 2816]⟩

abbrev nBuf : Space → Nat
  | .hbm => 79
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x5632, .bf16⟩
  | .hbm, ⟨2, _⟩ => ⟨S3x2816, .f32⟩
  | .hbm, ⟨3, _⟩ => ⟨S2048x5632, .bf16⟩
  | .hbm, ⟨4, _⟩ => ⟨S2048x2816, .bf16⟩
  | .hbm, ⟨5, _⟩ => ⟨S2048x2816, .f32⟩
  | .hbm, ⟨6, _⟩ => ⟨S_, .f32⟩
  | .hbm, ⟨7, _⟩ => ⟨S1x2816, .f32⟩
  | .hbm, ⟨8, _⟩ => ⟨S_, .f32⟩
  | .hbm, ⟨9, _⟩ => ⟨S2x2816, .f32⟩
  | .hbm, ⟨10, _⟩ => ⟨S2046x2816, .f32⟩
  | .hbm, ⟨11, _⟩ => ⟨S2048x2816, .f32⟩
  | .hbm, ⟨12, _⟩ => ⟨S_, .f32⟩
  | .hbm, ⟨13, _⟩ => ⟨S2x2816, .f32⟩
  | .hbm, ⟨14, _⟩ => ⟨S1x2816, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S1x2816, .f32⟩
  | .hbm, ⟨19, _⟩ => ⟨S2047x2816, .f32⟩
  | .hbm, ⟨20, _⟩ => ⟨S2048x2816, .f32⟩
  | .hbm, ⟨21, _⟩ => ⟨S_, .f32⟩
  | .hbm, ⟨22, _⟩ => ⟨S1x2816, .f32⟩
  | .hbm, ⟨23, _⟩ => ⟨S1x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S1x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2816, .f32⟩
  | .hbm, ⟨36, _⟩ => ⟨S1x2816, .f32⟩
  | .hbm, ⟨37, _⟩ => ⟨S2048x2816, .f32⟩
  | .hbm, ⟨38, _⟩ => ⟨S_, .f32⟩
  | .hbm, ⟨39, _⟩ => ⟨S2816, .f32⟩
  | .hbm, ⟨40, _⟩ => ⟨S1x2816, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S3x2816, .f32⟩
  | .hbm, ⟨45, _⟩ => ⟨S2048x2816, .f32⟩
  | .hbm, ⟨46, _⟩ => ⟨S_, .f32⟩
  | .hbm, ⟨47, _⟩ => ⟨S2816, .f32⟩
  | .hbm, ⟨48, _⟩ => ⟨S1x2816, .f32⟩
  | .hbm, ⟨49, _⟩ => ⟨S2048x2816, .f32⟩
  | .hbm, ⟨50, _⟩ => ⟨S2048x2816, .f32⟩
  | .hbm, ⟨51, _⟩ => ⟨S_, .f32⟩
  | .hbm, ⟨52, _⟩ => ⟨S3x2816, .f32⟩
  | .hbm, ⟨53, _⟩ => ⟨S3x2816, .f32⟩
  | .hbm, ⟨54, _⟩ => ⟨S1x2816, .f32⟩
  | .hbm, ⟨55, _⟩ => ⟨S2047x2816, .f32⟩
  | .hbm, ⟨56, _⟩ => ⟨S_, .f32⟩
  | .hbm, ⟨57, _⟩ => ⟨S2048x2816, .f32⟩
  | .hbm, ⟨58, _⟩ => ⟨S2048x2816, .f32⟩
  | .hbm, ⟨59, _⟩ => ⟨S2048x2816, .f32⟩
  | .hbm, ⟨60, _⟩ => ⟨S_, .f32⟩
  | .hbm, ⟨61, _⟩ => ⟨S2816, .f32⟩
  | .hbm, ⟨62, _⟩ => ⟨S1x2816, .f32⟩
  | .hbm, ⟨63, _⟩ => ⟨S2048x2816, .f32⟩
  | .hbm, ⟨64, _⟩ => ⟨S2048x2816, .f32⟩
  | .hbm, ⟨65, _⟩ => ⟨S_, .f32⟩
  | .hbm, ⟨66, _⟩ => ⟨S3x2816, .f32⟩
  | .hbm, ⟨67, _⟩ => ⟨S3x2816, .f32⟩
  | .hbm, ⟨68, _⟩ => ⟨S2x2816, .f32⟩
  | .hbm, ⟨69, _⟩ => ⟨S2046x2816, .f32⟩
  | .hbm, ⟨70, _⟩ => ⟨S_, .f32⟩
  | .hbm, ⟨71, _⟩ => ⟨S2048x2816, .f32⟩
  | .hbm, ⟨72, _⟩ => ⟨S2048x2816, .f32⟩
  | .hbm, ⟨73, _⟩ => ⟨S2048x2816, .bf16⟩
  | .hbm, ⟨74, _⟩ => ⟨S2048x2816, .bf16⟩
  | .hbm, ⟨75, _⟩ => ⟨S2048x5632, .bf16⟩
  | .hbm, ⟨76, _⟩ => ⟨S_, .f32⟩
  | .hbm, ⟨77, _⟩ => ⟨S5x2816, .f32⟩
  | .hbm, ⟨78, _⟩ => ⟨S8x2816, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel10.lean ====
abbrev S2048x4224 : Shape := ⟨2, ![2048, 4224]⟩
abbrev S1024x4224 : Shape := ⟨2, ![1024, 4224]⟩
abbrev S2048x1024 : Shape := ⟨2, ![2048, 1024]⟩
abbrev S1x1024 : Shape := ⟨2, ![1, 1024]⟩
abbrev S256x4224 : Shape := ⟨2, ![256, 4224]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x4224, .bf16⟩
  | .hbm, ⟨1, _⟩ => ⟨S1024x4224, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S256x4224, .bf16⟩
  | .local _ .vmem, ⟨1, _⟩ => ⟨S256x4224, .bf16⟩
  | .local _ .vmem, ⟨2, _⟩ => ⟨S1024x4224, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S2048x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S2048x4224 : Shape := ⟨2, ![2048, 4224]⟩
abbrev S1024x4224 : Shape := ⟨2, ![1024, 4224]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x4224, .bf16⟩
  | .hbm, ⟨1, _⟩ => ⟨S1024x4224, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1024x4224, .f32⟩
  | .hbm, ⟨25, _⟩ => ⟨S2048x4224, .f32⟩
  | .hbm, ⟨26, _⟩ => ⟨S2048x4224, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | _, _ => ⟨S2048x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel11.lean ====
abbrev S2048x1024 : Shape := ⟨2, ![2048, 1024]⟩
abbrev S2048x4224 : Shape := ⟨2, ![2048, 4224]⟩
abbrev S1024x4224 : Shape := ⟨2, ![1024, 4224]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4224, .bf16⟩
  | .hbm, ⟨2, _⟩ => ⟨S1024x4224, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .bf16⟩
  | .local _ .vmem, ⟨5, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x1024 : Shape := ⟨2, ![2048, 1024]⟩
abbrev S2048x4224 : Shape := ⟨2, ![2048, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4224, .bf16⟩
  | .hbm, ⟨2, _⟩ => ⟨S_, .f32⟩
  | .hbm, ⟨3, _⟩ => ⟨S1024x4224, .f32⟩
  | .hbm, ⟨4, _⟩ => ⟨S2048x1024, .f32⟩
  | .hbm, ⟨5, _⟩ => ⟨S2048x4224, .f32⟩
  | .hbm, ⟨6, _⟩ => ⟨S2048x4224, .f32⟩
  | .hbm, ⟨7, _⟩ => ⟨S4224x1024, .f32⟩
  | .hbm, ⟨8, _⟩ => ⟨S1024x4224, .f32⟩
  | .hbm, ⟨9, _⟩ => ⟨S1024x4224, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2048x1024 : Shape := ⟨2, ![2048, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1x128, .f32⟩
  | .hbm, ⟨4, _⟩ => ⟨S2048x1024, .f32⟩
  | .hbm, ⟨5, _⟩ => ⟨S2048x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S1x128, .f32⟩
  | .hbm, ⟨69, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel13.lean ====
abbrev S2048x1024 : Shape := ⟨2, ![2048, 1024]⟩
abbrev S1024x4224 : Shape := ⟨2, ![1024, 4224]⟩
abbrev S2048x4224 : Shape := ⟨2, ![2048, 4224]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x4224, .bf16⟩
  | .hbm, ⟨2, _⟩ => ⟨S2048x4224, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x1024 : Shape := ⟨2, ![2048, 1024]⟩
abbrev S1024x4224 : Shape := ⟨2, ![1024, 4224]⟩
abbrev S2048x4224 : Shape := ⟨2, ![2048, 4224]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4224, .bf16⟩
  | .hbm, ⟨2, _⟩ => ⟨S2048x1024, .f32⟩
  | .hbm, ⟨3, _⟩ => ⟨S1024x4224, .f32⟩
  | .hbm, ⟨4, _⟩ => ⟨S2048x4224, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S2048x2816 : Shape := ⟨2, ![2048, 2816]⟩
abbrev S2048x5632 : Shape := ⟨2, ![2048, 5632]⟩
abbrev S256x1408 : Shape := ⟨2, ![256, 1408]⟩
abbrev S16x1408 : Shape := ⟨2, ![16, 1408]⟩

abbrev nBuf : Space → Nat
  | .hbm => 6
  | .vmem => 10
  | .smem => 0
  | _ => 0

abbrev bufTy : (tb : Table) → Fin (tcTables nBuf tb) → BufTy
  | .hbm, ⟨0, _⟩ => ⟨S2048x2816, .bf16⟩
  | .hbm, ⟨1, _⟩ => ⟨S2048x5632, .bf16⟩
  | .hbm, ⟨2, _⟩ => ⟨S2048x2816, .bf16⟩
  | .hbm, ⟨3, _⟩ => ⟨S2048x2816, .bf16⟩
  | .hbm, ⟨4, _⟩ => ⟨S2048x5632, .bf16⟩
  | .hbm, ⟨5, _⟩ => ⟨S2048x2816, .bf16⟩
  | .local _ .vmem, ⟨0, _⟩ => ⟨S256x1408, .bf16⟩
  | .local _ .vmem, ⟨1, _⟩ => ⟨S256x1408, .bf16⟩
  | .local _ .vmem, ⟨2, _⟩ => ⟨S256x1408, .bf16⟩
  | .local _ .vmem, ⟨3, _⟩ => ⟨S256x1408, .bf16⟩
  | .local _ .vmem, ⟨4, _⟩ => ⟨S256x1408, .bf16⟩
  | .local _ .vmem, ⟨5, _⟩ => ⟨S256x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S2048x2816 : Shape := ⟨2, ![2048, 2816]⟩
abbrev S2048x5632 : Shape := ⟨2, ![2048, 5632]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x5632, .bf16⟩
  | .hbm, ⟨2, _⟩ => ⟨S2048x2816, .bf16⟩
  | .hbm, ⟨3, _⟩ => ⟨S2048x2816, .f32⟩
  | .hbm, ⟨4, _⟩ => ⟨S2048x2816, .bf16⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .bf16⟩
  | .hbm, ⟨28, _⟩ => ⟨S2048x2816, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Proof.Frames.lean ====
/-
  The references' frames: each runs to the end, its arguments unchanged, every semaphore counter at zero.
-/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run

@[expose] public section

noncomputable section

open Idealize.ShloMosaic Idealize.SL.Sem

namespace Cert.Proof.Frames

/-- The reference of `Kernel` runs, keeps its arguments and leaves every counter at zero. -/
theorem reference : quiescent_ReferenceIdeal := fun m g _ =>
  (θ_run _ _ _).mono (fun r h => ⟨fun c => (h c).2.2.2.2.2.2.2.2, sem_eq_zero_of_no_sems (by decide) r.2⟩) (Cert.ReferenceIdeal.Value.run m g)

/-- The reference of `Kernel2` runs, keeps its arguments and leaves every counter at zero. -/
theorem reference2 : quiescent_Reference2Ideal := fun m g _ =>
  (θ_run _ _ _).mono (fun r h => ⟨fun c => (h c).2.2, sem_eq_zero_of_no_sems (by decide) r.2⟩) (Cert.Reference2Ideal.Value.run m g)

/-- The reference of `Kernel3` runs, keeps its arguments and leaves every counter at zero. -/
theorem reference3 : quiescent_Reference3Ideal := fun m g _ =>
  (θ_run _ _ _).mono (fun r h => ⟨fun c => (h c).2.2.2, sem_eq_zero_of_no_sems (by decide) r.2⟩) (Cert.Reference3Ideal.Value.run m g)

/-- The reference of `Kernel4` runs, keeps its arguments and leaves every counter at zero. -/
theorem reference4 : quiescent_Reference4Ideal := fun m g _ =>
  (θ_run _ _ _).mono (fun r h => ⟨fun c => (h c).2, sem_eq_zero_of_no_sems (by decide) r.2⟩) (Cert.Reference4Ideal.Value.run m g)

/-- The reference of `Kernel5` runs, keeps its arguments and leaves every counter at zero. -/
theorem reference5 : quiescent_Reference5Ideal := fun m g _ =>
  (θ_run _ _ _).mono (fun r h => ⟨fun c => (h c).2, sem_eq_zero_of_no_sems (by decide) r.2⟩) (Cert.Reference5Ideal.Value.run m g)

/-- The reference of `Kernel6` runs, keeps its arguments and leaves every counter at zero. -/
theorem reference6 : quiescent_Reference6Ideal := fun m g _ =>
  (θ_run _ _ _).mono (fun r h => ⟨fun c => (h c).2, sem_eq_zero_of_no_sems (by decide) r.2⟩) (Cert.Reference6Ideal.Value.run m g)

/-- The reference of `Kernel7` runs, keeps its arguments and leaves every counter at zero. -/
theorem reference7 : quiescent_Reference7Ideal := fun m g _ =>
  (θ_run _ _ _).mono (fun r h => ⟨fun c => (h c).2, sem_eq_zero_of_no_sems (by decide) r.2⟩) (Cert.Reference7Ideal.Value.run m g)

/-- The reference of `Kernel8` runs, keeps its arguments and leaves every counter at zero. -/
theorem reference8 : quiescent_Reference8Ideal := fun m g _ =>
  (θ_run _ _ _).mono (fun r h => ⟨fun c => (h c).2.2, sem_eq_zero_of_no_sems (by decide) r.2⟩) (Cert.Reference8Ideal.Value.run m g)

/-- The reference of `Kernel9` runs, keeps its arguments and leaves every counter at zero. -/
theorem reference9 : quiescent_Reference9Ideal := fun m g _ =>
  (θ_run _ _ _).mono (fun r h => ⟨fun c => (h c).2.2.2, sem_eq_zero_of_no_sems (by decide) r.2⟩) (Cert.Reference9Ideal.Value.run m g)

/-- The reference of `Kernel10` runs, keeps its arguments and leaves every counter at zero. -/
theorem reference10 : quiescent_Reference10Ideal := fun m g _ =>
  (θ_run _ _ _).mono (fun r h => ⟨fun c => (h c).2.2.2, sem_eq_zero_of_no_sems (by decide) r.2⟩) (Cert.Reference10Ideal.Value.run m g)

/-- The reference of `Kernel11` runs, keeps its arguments and leaves every counter at zero. -/
theorem reference11 : quiescent_Reference11Ideal := fun m g _ =>
  (θ_run _ _ _).mono (fun r h => ⟨fun c => (h c).2, sem_eq_zero_of_no_sems (by decide) r.2⟩) (Cert.Reference11Ideal.Value.run m g)

/-- The reference of `Kernel12` runs, keeps its arguments and leaves every counter at zero. -/
theorem reference12 : quiescent_Reference12Ideal := fun m g _ =>
  (θ_run _ _ _).mono (fun r h => ⟨fun c => (h c).2.2.2.2, sem_eq_zero_of_no_sems (by decide) r.2⟩) (Cert.Reference12Ideal.Value.run m g)

/-- The reference of `Kernel13` runs, keeps its arguments and leaves every counter at zero. -/
theorem reference13 : quiescent_Reference13Ideal := fun m g _ =>
  (θ_run _ _ _).mono (fun r h => ⟨fun c => (h c).2, sem_eq_zero_of_no_sems (by decide) r.2⟩) (Cert.Reference13Ideal.Value.run m g)

/-- The reference of `Kernel14` runs, keeps its arguments and leaves every counter at zero. -/
theorem reference14 : quiescent_Reference14Ideal := fun m g _ =>
  (θ_run _ _ _).mono (fun r h => ⟨fun c => (h c).2.2, sem_eq_zero_of_no_sems (by decide) r.2⟩) (Cert.Reference14Ideal.Value.run m g)

end Cert.Proof.Frames

end
-- ==== Proof.Down.lean ====
/-
  The two gradients of the feed-forward block's product with its second weight: the tiled kernel's array is the reference's product.
-/
module

public import proofs.«01_k».proof.Proof.Gen.Kernel5Ideal.Frame
public import proofs.«01_k».proof.Proof.Gen.Kernel6Ideal.Frame
public import proofs.«01_k».proof.Proof.Gen.Reference5Ideal.Run
public import proofs.«01_k».proof.Proof.Gen.Reference6Ideal.Run
public import Idealize.ShloMosaic.Lib.Pipeline.ValueKit
public import proofs.«01_k».proof.Defs

@[expose] public section

set_option maxRecDepth 16384

noncomputable section

open Idealize.ShloMosaic Idealize.ShloMosaic.TcCoe Idealize.ShloMosaic.Pointwise Idealize.SL.Sem

namespace Cert.Proof.DownDx

open Cert.Kernel5Ideal Cert.Kernel5Ideal.Gen

variable (m : (ℓ : Loc nD τ sig) → Buf (Elt Ideal) ℓ)

/-- The gradient of the activations: the incoming gradient times the transposed weight. -/
def dact (dx : FVec Ideal S2048x1024 .bf16) (w : FVec Ideal S2816x1024 .bf16) : FVec Ideal S2048x2816 .bf16 :=
  fun i => ∑ k : Fin 1024, dx (ix2 (i 0) k) * w (ix2 (i 1) k)

/-- Where each block of the grid lies. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The kernel's result is the gradient, whole. -/
theorem final (c : Dev nD) : (dats m 0 c).arrAt 2 (cfgs 0).N
    = dact (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dact]
  blk_point [iblk, V, idx t]

/-- Kernel and reference leave the same gradient. -/
theorem algebraic : algebraic_Kernel5Ideal_Reference5Ideal := by
  pair_intro
  · run_from Cert.Kernel5Ideal.Gen.run_main m g
  · run_from Cert.Reference5Ideal.Value.run m' g'
    rw [final m c]
    funext i
    pointwise [dact]

end Cert.Proof.DownDx

namespace Cert.Proof.DownDw

open Cert.Kernel6Ideal Cert.Kernel6Ideal.Gen

variable (m : (ℓ : Loc nD τ sig) → Buf (Elt Ideal) ℓ)

/-- The gradient of the weight: the transposed activations times the incoming gradient. -/
def dw (act : FVec Ideal S2048x2816 .bf16) (dx : FVec Ideal S2048x1024 .bf16) : FVec Ideal S2816x1024 .bf16 :=
  fun i => ∑ k : Fin 2048, act (ix2 k (i 0)) * dx (ix2 k (i 1))

/-- Where each block of the grid lies. -/
theorem idx : ∀ t : Fin cfg0.N, win0_0.index t = ![0, (grid0.coords t 0).val] ∧ win0_1.index t = ![0, 0]
    ∧ win0_2.index t = ![(grid0.coords t 0).val, 0] :=
  (by decide +kernel : ∀ t : Fin grid0.N, _)

/-- The kernel's result is the gradient, whole. -/
theorem final (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dw]
  blk_point [iblk, V, idx t]

/-- Kernel and reference leave the same gradient. -/
theorem algebraic : algebraic_Kernel6Ideal_Reference6Ideal := by
  pair_intro
  · run_from Cert.Kernel6Ideal.Gen.run_main m g
  · run_from Cert.Reference6Ideal.Value.run m' g'
    rw [final m c]
    funext i
    pointwise [dw]
    exact Finset.sum_congr rfl fun k _ => mul_comm _ _

end Cert.Proof.DownDw

end
-- ==== Proof.DownNorm.lean ====
/-
  The feed-forward block's product with its second weight, added to the residual, and the root-mean-square norm of the sum.
-/
module

public import proofs.«01_k».proof.Proof.Gen.Kernel8Ideal.Frame
public import proofs.«01_k».proof.Proof.Gen.Reference8Ideal.Run
public import Idealize.ShloMosaic.Lib.Pipeline.ValueKit
public import proofs.«01_k».proof.Defs

@[expose] public section

set_option maxRecDepth 16384

noncomputable section

open Idealize.ShloMosaic Idealize.ShloMosaic.TcCoe Idealize.ShloMosaic.Pointwise Idealize.SL.Sem

namespace Cert.Proof.DownNorm

open Cert.Kernel8Ideal Cert.Kernel8Ideal.Gen

variable (m : (ℓ : Loc nD τ sig) → Buf (Elt Ideal) ℓ)

/-- The residual plus the activations times the weight. -/
def sum (act : FVec Ideal S2048x2816 .bf16) (w : FVec Ideal S2816x1024 .bf16) (x : FVec Ideal S2048x1024 .f32) :
    FVec Ideal S2048x1024 .f32 :=
  fun i => x i + ∑ k : Fin 2816, act (ix2 (i 0) k) * w (ix2 k (i 1))

/-- Where each block of the grid lies. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The kernel's first result is the sum, whole. -/
theorem final4 (c : Dev nD) : (dats m 0 c).arrAt 4 (cfgs 0).N
    = sum (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay1, sum]
  blk_point [iblk, V, idx t]

/-- Kernel and reference leave the same sum and the same norm. -/
theorem algebraic : algebraic_Kernel8Ideal_Reference8Ideal := by
  pair_intro
  · run_from Cert.Kernel8Ideal.Gen.run_main m g
  · run_from Cert.Reference8Ideal.Value.run m' g'
    · rw [final4 m c]
      funext i
      pointwise [sum]
    · refine Eq.symm ?_
      refine (dats m 0 c).arrAt_eq_of_covers 5 _ (by decide +kernel) fun t _ y => ?_
      blk_simp
      rw [after0_5]; frame_out
      pointwise [k0_pay1, k0_pay2]
      blk_point [iblk, V, idx t]

end Cert.Proof.DownNorm

end
-- ==== Proof.Up.lean ====
/-
  The feed-forward block's product with its first weight, and that weight's gradient: the weight and the gradient lie in four slots of
  columns, and the tiled kernel's array is the reference's product.
-/
module

public import proofs.«01_k».proof.Proof.Gen.Kernel4Ideal.Frame
public import proofs.«01_k».proof.Proof.Gen.Reference4Ideal.Run
public import proofs.«01_k».proof.Proof.Gen.Kernel7Ideal.Frame
public import proofs.«01_k».proof.Proof.Gen.Reference7Ideal.Run
public import Idealize.ShloMosaic.Lib.Pipeline.ValueKit
public import proofs.«01_k».proof.Defs

@[expose] public section

set_option maxRecDepth 16384

noncomputable section

open Idealize.ShloMosaic Idealize.ShloMosaic.TcCoe Idealize.ShloMosaic.Pointwise Idealize.SL.Sem

namespace Cert.Proof.UpDw

open Cert.Kernel4Ideal Cert.Kernel4Ideal.Gen

variable (m : (ℓ : Loc nD τ sig) → Buf (Elt Ideal) ℓ)

/-- The gradient of the weight, column `1408 * s + j` in slot `s`: the transposed activations times the incoming gradient. -/
def dw (h : FVec Ideal S2048x1024 .bf16) (dup : FVec Ideal S2048x5632 .bf16) : FVec Ideal S4x1024x1408 .bf16 :=
  fun i => ∑ k : Fin 2048, h (ix2 k (i 1)) * dup (ix2 k ⟨1408 * (i 0).val + (i 2).val, by
    have h0 : (i 0).val < 4 := (i 0).isLt
    have h2 : (i 2).val < 1408 := (i 2).isLt
    omega⟩)

/-- Where each block of the grid lies. -/
theorem idx : ∀ t : Fin cfg0.N, win0_0.index t = ![0, (grid0.coords t 1).val] ∧ win0_1.index t = ![0, (grid0.coords t 0).val]
    ∧ win0_2.index t = ![(grid0.coords t 0).val, (grid0.coords t 1).val, 0] :=
  (by decide +kernel : ∀ t : Fin grid0.N, _)

/-- The kernel's result is the gradient, whole. -/
theorem final (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dw]
  blk_point [iblk, V, idx t]

/-- Kernel and reference leave the same gradient. -/
theorem algebraic : algebraic_Kernel4Ideal_Reference4Ideal := by
  pair_intro
  · run_from Cert.Kernel4Ideal.Gen.run_main m g
  · run_from Cert.Reference4Ideal.Value.run m' g'
    rw [final m c]
    funext i
    pointwise [dw]
    refine Finset.sum_congr rfl fun k _ => (mul_comm _ _).trans ?_
    blk_point []

end Cert.Proof.UpDw

namespace Cert.Proof.Up

open Cert.Kernel7Ideal Cert.Kernel7Ideal.Gen

variable (m : (ℓ : Loc nD τ sig) → Buf (Elt Ideal) ℓ)

/-- The activations times the weight. -/
def up (h : FVec Ideal S2048x1024 .bf16) (w : FVec Ideal S1024x5632 .bf16) : FVec Ideal S2048x5632 .bf16 :=
  fun i => ∑ k : Fin 1024, h (ix2 (i 0) k) * w (ix2 k (i 1))

/-- Where each block of the grid lies. -/
theorem idx : ∀ t : Fin cfg0.N, win0_0.index t = ![(grid0.coords t 0).val, 0] ∧ win0_1.index t = ![(grid0.coords t 1).val, 0, 0]
    ∧ win0_2.index t = ![(grid0.coords t 0).val, (grid0.coords t 1).val] :=
  (by decide +kernel : ∀ t : Fin grid0.N, _)

/-- The kernel's result is the product, whole. -/
theorem final (c : Dev nD) : (dats m 0 c).arrAt 2 (cfgs 0).N
    = up (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, up]
  blk_point [iblk, V, idx t]

/-- Kernel and reference leave the same product. -/
theorem algebraic : algebraic_Kernel7Ideal_Reference7Ideal := by
  pair_intro
  · run_from Cert.Kernel7Ideal.Gen.run_main m g
  · run_from Cert.Reference7Ideal.Value.run m' g'
    rw [final m c]
    funext i
    pointwise [up]

end Cert.Proof.Up

end
-- ==== Proof.UpDx.lean ====
/-
  The gradient that the feed-forward block's first product hands back: through the weight, through the root-mean-square norm before it
  and to the residual. Kernel and reference leave the same gradient of the input, in both formats, and of the norm's gain.
-/
module

public import proofs.«01_k».proof.Proof.Gen.Kernel3Ideal.Value
public import proofs.«01_k».proof.Proof.Gen.Reference3Ideal.Run
public import Idealize.ShloMosaic.Lib.Pipeline.ValueKit
public import proofs.«01_k».proof.Defs

@[expose] public section

set_option maxRecDepth 16384

noncomputable section

open Idealize.ShloMosaic Idealize.ShloMosaic.TcCoe Idealize.ShloMosaic.Pointwise Idealize.SL.Sem

namespace Cert.Proof.UpDx

open Cert.Kernel3Ideal Cert.Kernel3Ideal.Gen Cert.Kernel3Ideal.Value

variable (m : (ℓ : Loc nD τ sig) → Buf (Elt Ideal) ℓ)

/-- The gradient of the norm's output: the incoming gradient times the transposed weight. -/
def dh (dup : FVec Ideal S2048x5632 .bf16) (w : FVec Ideal S1024x5632 .bf16) : FVec Ideal S2048x1024 .f32 :=
  fun i => ∑ k : Fin 5632, dup (ix2 (i 0) k) * w (ix2 (i 1) k)

/-- A row's mean square with the norm's floor. -/
def ms (x : FVec Ideal S2048x1024 .f32) (r : Fin 2048) : EReal :=
  Ideal.div (∑ k : Fin 1024, x (ix2 r k) * x (ix2 r k)) (Ideal.ofBits FTy.f32 0x44800000#32) + Ideal.ofBits FTy.f32 0x358637BD#32

/-- What a row's entries get through the norm's mean square, half of it, per unit of the entry. -/
def thr (d x : FVec Ideal S2048x1024 .f32) (g : FVec Ideal S1x1024 .f32) (r : Fin 2048) : EReal :=
  Ideal.div ((∑ k : Fin 1024, x (ix2 r k) * (d (ix2 r k) * g (ix2 0 k)))
    * (Ideal.ofBits FTy.f32 0xBF000000#32 * Ideal.div (Ideal.rsqrt (ms x r)) (ms x r))) (Ideal.ofBits FTy.f32 0x44800000#32)

/-- The gradient of the input: through the norm, and from the residual. -/
def dx (d x : FVec Ideal S2048x1024 .f32) (g : FVec Ideal S1x1024 .f32) (dres : FVec Ideal S2048x1024 .f32) : FVec Ideal S2048x1024 .f32 :=
  fun i => d i * g (ix2 0 (i 1)) * Ideal.rsqrt (ms x (i 0)) + x i * thr d x g (i 0) + thr d x g (i 0) * x i + dres i

/-- What a row adds to the gradient of the gain. -/
def dgRow (d x : FVec Ideal S2048x1024 .f32) (j : Fin 1024) (r : Fin 2048) : EReal :=
  x (ix2 r j) * Ideal.rsqrt (ms x r) * d (ix2 r j)

/-- The gradient of the gain: each column's sum over all rows. -/
def dg (d x : FVec Ideal S2048x1024 .f32) : FVec Ideal S1x1024 .f32 := fun i => ∑ r : Fin 2048, dgRow d x (i 1) r

/-- Where each block of the grid lies. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- A sum over all columns is the sum over the four slots, slot by slot. -/
theorem sum_slots (f : Fin 5632 → EReal) : ∑ l : Fin 5632, f l
    = ∑ k : Fin 1408, f ⟨k.val, by omega⟩ + ∑ k : Fin 1408, f ⟨1408 + k.val, by omega⟩ + ∑ k : Fin 1408, f ⟨2816 + k.val, by omega⟩
      + ∑ k : Fin 1408, f ⟨4224 + k.val, by omega⟩ := by
  have h : ∑ s : Fin 4, ∑ k : Fin 1408, f ⟨s.val * 1408 + k.val, by omega⟩ = ∑ l : Fin 5632, f l :=
    Fin.sum_mul_add_congr fun s k hl => rfl
  rw [← h, Fin.sum_univ_four]
  congr! 5 <;> simp <;> rfl

/-- The slots' four products at a grid point add up to the gradient's rows there. -/
theorem dh_at (c : Dev nD) (t : Fin cfg0.N) (i : Fin 256) (j : Fin 1024) (hi : 256 * t.val + i.val < 2048) :
    k0_pay1 (View.ld (iblk m c 0 t) (Rect.unit ![0, 0] S256x1408.size inb_S256x5632_S256x1408_0_0))
      (View.ld (iblk m c 1 t) (Rect.unit ![0, 0, 0] S1x1024x1408.size inb_S4x1024x1408_S1x1024x1408_0_0_0))
      (View.ld (iblk m c 0 t) (Rect.unit ![0, 1408] S256x1408.size inb_S256x5632_S256x1408_0_1408))
      (View.ld (iblk m c 1 t) (Rect.unit ![1, 0, 0] S1x1024x1408.size inb_S4x1024x1408_S1x1024x1408_1_0_0))
      (View.ld (iblk m c 0 t) (Rect.unit ![0, 2816] S256x1408.size inb_S256x5632_S256x1408_0_2816))
      (View.ld (iblk m c 1 t) (Rect.unit ![2, 0, 0] S1x1024x1408.size inb_S4x1024x1408_S1x1024x1408_2_0_0))
      (View.ld (iblk m c 0 t) (Rect.unit ![0, 4224] S256x1408.size inb_S256x5632_S256x1408_0_4224))
      (View.ld (iblk m c 1 t) (Rect.unit ![3, 0, 0] S1x1024x1408.size inb_S4x1024x1408_S1x1024x1408_3_0_0)) (ix2 i j)
    = dh (m ((c : Thread nD τ).loc main_arg0)) (m ((c : Thread nD τ).loc main_arg1)) (ix2 ⟨256 * t.val + i.val, hi⟩ j) := by
  unfold dh
  rw [sum_slots]
  pointwise [k0_pay1]
  blk_point [iblk, V, idx t]

section

variable (m' : (ℓ : Loc Cert.Reference3Ideal.nD Cert.Reference3Ideal.τ Cert.Reference3Ideal.sig) → Buf (Elt Ideal) ℓ)
  (c : Dev Cert.Reference3Ideal.nD)

/-- The reference's gradient of the input. -/
theorem ref_dx : Cert.Reference3Ideal.Value.res_main_v38 m' c
    = dx (dh (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1)))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4)) := by
  funext i
  unfold Cert.Reference3Ideal.Value.res_main_v38
  pointwise [dx, thr, ms, dh]
  simp only [Fin.sum_univ_one]

/-- The reference's gradient of the input, rounded. -/
theorem ref_dx16 : Cert.Reference3Ideal.Value.res_main_v39 m' c = (show FVec Ideal S2048x1024 .bf16 from Cert.Reference3Ideal.Value.res_main_v38 m' c) := by
  funext i
  unfold Cert.Reference3Ideal.Value.res_main_v38 Cert.Reference3Ideal.Value.res_main_v39
  pointwise

end

/-- What a grid point writes of the input's gradient. -/
theorem dx_at (c : Dev nD) (t : Fin cfg0.N) (X : FVec Ideal S256x1024 .f32) (i : Fin 256) (j : Fin 1024) (hi : 256 * t.val + i.val < 2048)
    (D : FVec Ideal S2048x1024 .f32) (hX : ∀ j, X (ix2 i j) = D (ix2 ⟨256 * t.val + i.val, hi⟩ j)) :
    k0_pay4 X (iblk m c 2 t) (iblk m c 3 t) (k0_pay2 (iblk m c 2 t)) (iblk m c 4 t) (ix2 i j)
      = dx D (m ((c : Thread nD τ).loc main_arg2)) (m ((c : Thread nD τ).loc main_arg3)) (m ((c : Thread nD τ).loc main_arg4))
          (ix2 ⟨256 * t.val + i.val, hi⟩ j) := by
  pointwise [k0_pay4, k0_pay3, k0_pay2, dx, thr, ms]
  simp only [Fin.sum_univ_one, hX]
  blk_point [iblk, V, idx t]

/-- What the rows of a grid point add to the gradient of the gain. -/
def dgBlock (d x : FVec Ideal S2048x1024 .f32) (t : Fin cfg0.N) (j : Fin 1024) : EReal :=
  ∑ i : Fin 256, dgRow d x j ⟨256 * t.val + i.val, by have : t.val < 8 := t.isLt; omega⟩

/-- What a grid point adds to the gain's gradient. -/
theorem dg_at (c : Dev nD) (t : Fin cfg0.N) (X : FVec Ideal S256x1024 .f32) (A : FVec Ideal S1x1024 .f32) (j : Fin 1024)
    (D : FVec Ideal S2048x1024 .f32)
    (hX : ∀ i j (hi : 256 * t.val + i.val < 2048), X (ix2 i j) = D (ix2 ⟨256 * t.val + i.val, hi⟩ j)) :
    k0_pay7 X (iblk m c 2 t) (k0_pay2 (iblk m c 2 t)) A (ix2 0 j)
      = A (ix2 0 j) + dgBlock D (m ((c : Thread nD τ).loc main_arg2)) t j := by
  unfold dgBlock
  have ht : t.val < 8 := t.isLt
  pointwise [k0_pay7, k0_pay3, k0_pay2, dgRow, ms]
  congr 1
  refine Finset.sum_congr rfl fun i _ => ?_
  rw [hX i _ (by omega)]
  blk_point [iblk, V, idx t]

variable (c : Dev nD)

/-- The kernel's gradient of the input is `dx`, whole. -/
theorem final5 : (dats m 0 c).arrAt 5 (cfgs 0).N
    = dx (dh (m ((c : Thread nD τ).loc main_arg0)) (m ((c : Thread nD τ).loc main_arg1)))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  have ht : t.val < 8 := t.isLt
  have h0 : (y 0).val < 256 := (y 0).isLt
  have hy := dx_at m c t _ (y 0) (y 1) (by omega) _ fun j => dh_at m c t (y 0) j (by omega)
  have ey : y = ix2 (y 0) (y 1) := by blk_ext []
  have e : ix2 (⟨256 * t.val + (y 0).val, by omega⟩ : Fin 2048) (y 1) = ((cfg0.win 5).blk t).view.emb y := by blk_ext [idx t]
  rw [after0_5]
  by_cases h : t.val % 8 = 0
  · rw [outsAt0_A m c t h]; frame_out
    exact (congrArg (k0_pay4 _ _ _ _ _) ey).trans (hy.trans (congrArg _ e))
  · rw [outsAt0_B m c t h]; frame_out
    exact (congrArg (k0_pay4 _ _ _ _ _) ey).trans (hy.trans (congrArg _ e))

/-- The kernel's gradient of the input, rounded, is `dx`, whole. -/
theorem final6 : (dats m 0 c).arrAt 6 (cfgs 0).N
    = (show FVec Ideal S2048x1024 .bf16 from dx (dh (m ((c : Thread nD τ).loc main_arg0)) (m ((c : Thread nD τ).loc main_arg1)))
        (m ((c : Thread nD τ).loc main_arg2)) (m ((c : Thread nD τ).loc main_arg3)) (m ((c : Thread nD τ).loc main_arg4))) := by
  refine (dats m 0 c).arrAt_eq_of_covers 6 _ (by decide +kernel) fun t _ y => ?_
  blk_simp
  have ht : t.val < 8 := t.isLt
  have h0 : (y 0).val < 256 := (y 0).isLt
  have hy := dx_at m c t _ (y 0) (y 1) (by omega) _ fun j => dh_at m c t (y 0) j (by omega)
  have ey : y = ix2 (y 0) (y 1) := by blk_ext []
  have e : ix2 (⟨256 * t.val + (y 0).val, by omega⟩ : Fin 2048) (y 1) = ((cfg0.win 6).blk t).view.emb y := by blk_ext [idx t]
  rw [after0_6]
  by_cases h : t.val % 8 = 0
  · rw [outsAt0_A m c t h]; frame_out
    unfold k0_pay5
    exact (congrArg (k0_pay4 _ _ _ _ _) ey).trans (hy.trans (congrArg _ e))
  · rw [outsAt0_B m c t h]; frame_out
    unfold k0_pay5
    exact (congrArg (k0_pay4 _ _ _ _ _) ey).trans (hy.trans (congrArg _ e))

/-- The kernel's gradient of the gain is `dg`. -/
theorem final7 : (dats m 0 c).arrAt 7 (cfgs 0).N
    = dg (dh (m ((c : Thread nD τ).loc main_arg0)) (m ((c : Thread nD τ).loc main_arg1))) (m ((c : Thread nD τ).loc main_arg2)) := by
  refine (dats m 0 c).arrAt_eq_of_after_last 7 t0_7 (by decide +kernel) _ fun j => ?_
  blk_simp
  have ej : j = ix2 0 (j 1) := by blk_ext []
  have hstep := fun (t : Fin cfg0.N) (A : FVec Ideal S1x1024 .f32) (j : Fin 1024) =>
    dg_at m c t _ A j _ fun i j hi => dh_at m c t i j hi
  rw [after0_7, ej]
  refine (Pipeline.eq_sum_fin_of_reset_step_apply_last (fun n h (j : Fin 1024) => (outsAt0 m c n h).2.2 (ix2 0 j)) 8 (fun _ => (0 : EReal))
    (dgBlock (dh (m ((c : Thread nD τ).loc main_arg0)) (m ((c : Thread nD τ).loc main_arg1))) (m ((c : Thread nD τ).loc main_arg2))) (fun t h j => ?_) (fun t h j => ?_) (le_of_eq N_0) t0_7 rfl (j 1)).trans ?_
  · rw [outsAt0_A m c t h]; frame_out
    refine (hstep t _ j).trans ?_
    congr 1
    pointwise [k0_pay6]
  · rw [outsAt0_B m c t h]; frame_out
    exact hstep t _ j
  · rw [zero_add]
    unfold dgBlock dg
    exact Fin.sum_mul_add_congr fun s k hl => by congr 2; omega

/-- Kernel and reference leave the same gradients. -/
theorem algebraic : algebraic_Kernel3Ideal_Reference3Ideal := by
  intro m g m' g' _ hagree
  refine ⟨fun c => dx (dh (m ((c : Thread nD τ).loc main_arg0)) (m ((c : Thread nD τ).loc main_arg1))) (m ((c : Thread nD τ).loc main_arg2)) (m ((c : Thread nD τ).loc main_arg3)) (m ((c : Thread nD τ).loc main_arg4)),
    fun c => (show FVec Ideal S2048x1024 .bf16 from dx (dh (m ((c : Thread nD τ).loc main_arg0)) (m ((c : Thread nD τ).loc main_arg1))) (m ((c : Thread nD τ).loc main_arg2)) (m ((c : Thread nD τ).loc main_arg3)) (m ((c : Thread nD τ).loc main_arg4))),
    fun c => dg (dh (m ((c : Thread nD τ).loc main_arg0)) (m ((c : Thread nD τ).loc main_arg1))) (m ((c : Thread nD τ).loc main_arg2)),
    (θ_run _ _ _).mono (fun r h c => ?_) (run_blocks m g), (θ_run _ _ _).mono (fun r h c => ?_) (Cert.Reference3Ideal.Value.run m' g')⟩
  · obtain ⟨h5, h6, h7, h⟩ := h c
    exact ⟨h5.trans (final5 m c), h6.trans (final6 m c), h7.trans (final7 m c), h⟩
  · obtain ⟨h5, h6, h7, h⟩ := h c
    obtain ⟨e0, e1, e2, e3, e4⟩ := hagree c
    beta_reduce
    rw [← e0, ← e1, ← e2, ← e3, ← e4]
    refine ⟨h5.trans (ref_dx m' c), h6.trans ((ref_dx16 m' c).trans (ref_dx m' c)), h7.trans ?_, h⟩
    funext i
    pointwise [dg, dgRow, ms, dh]

end Cert.Proof.UpDx

end
-- ==== Proof.MixInDx.lean ====
/-
  The gradient that an even layer's product with the mixer's in-projection hands back: through the weight, through the root-mean-square
  norm before it and to the residual. Kernel and reference leave the same gradient of the input, in both formats, and of the norm's gain.
-/
module

public import proofs.«01_k».proof.Proof.Gen.Kernel10Ideal.Value
public import proofs.«01_k».proof.Proof.UpDx
public import proofs.«01_k».proof.Proof.Gen.Reference10Ideal.Run
public import Idealize.ShloMosaic.Lib.Pipeline.ValueKit
public import proofs.«01_k».proof.Defs

@[expose] public section

set_option maxRecDepth 16384

noncomputable section

open Idealize.ShloMosaic Idealize.ShloMosaic.TcCoe Idealize.ShloMosaic.Pointwise Idealize.SL.Sem

namespace Cert.Proof.MixInDx

open Cert.Kernel10Ideal Cert.Kernel10Ideal.Gen Cert.Kernel10Ideal.Value
open Cert.Proof.UpDx (ms thr dx dgRow dg)

variable (m : (ℓ : Loc nD τ sig) → Buf (Elt Ideal) ℓ)

/-- The gradient of the norm's output: the incoming gradient times the transposed weight. -/
def dh (dp : FVec Ideal S2048x4224 .bf16) (w : FVec Ideal S1024x4224 .bf16) : FVec Ideal S2048x1024 .f32 :=
  fun i => ∑ k : Fin 4224, dp (ix2 (i 0) k) * w (ix2 (i 1) k)

/-- Where each block of the grid lies. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- The product at a grid point is the gradient's rows there. -/
theorem dh_at (c : Dev nD) (t : Fin cfg0.N) (i : Fin 256) (j : Fin 1024) (hi : 256 * t.val + i.val < 2048) :
    k0_pay4 (iblk m c 0 t) (iblk m c 1 t) (ix2 i j)
    = dh (m ((c : Thread nD τ).loc main_arg0)) (m ((c : Thread nD τ).loc main_arg1)) (ix2 ⟨256 * t.val + i.val, hi⟩ j) := by
  pointwise [k0_pay4, dh]
  blk_point [iblk, V, idx t]

section

variable (m' : (ℓ : Loc Cert.Reference10Ideal.nD Cert.Reference10Ideal.τ Cert.Reference10Ideal.sig) → Buf (Elt Ideal) ℓ)
  (c : Dev Cert.Reference10Ideal.nD)

/-- The reference's gradient of the input. -/
theorem ref_dx : Cert.Reference10Ideal.Value.res_main_v38 m' c
    = dx (dh (m' ((c.tc : Thread Cert.Reference10Ideal.nD Cert.Reference10Ideal.τ).loc Cert.Reference10Ideal.main_arg0))
        (m' ((c.tc : Thread Cert.Reference10Ideal.nD Cert.Reference10Ideal.τ).loc Cert.Reference10Ideal.main_arg1)))
      (m' ((c.tc : Thread Cert.Reference10Ideal.nD Cert.Reference10Ideal.τ).loc Cert.Reference10Ideal.main_arg2))
      (m' ((c.tc : Thread Cert.Reference10Ideal.nD Cert.Reference10Ideal.τ).loc Cert.Reference10Ideal.main_arg3))
      (m' ((c.tc : Thread Cert.Reference10Ideal.nD Cert.Reference10Ideal.τ).loc Cert.Reference10Ideal.main_arg4)) := by
  funext i
  unfold Cert.Reference10Ideal.Value.res_main_v38
  pointwise [dx, thr, ms, dh]
  simp only [Fin.sum_univ_one]

/-- The reference's gradient of the input, rounded. -/
theorem ref_dx16 : Cert.Reference10Ideal.Value.res_main_v39 m' c = (show FVec Ideal S2048x1024 .bf16 from Cert.Reference10Ideal.Value.res_main_v38 m' c) := by
  funext i
  unfold Cert.Reference10Ideal.Value.res_main_v38 Cert.Reference10Ideal.Value.res_main_v39
  pointwise

end

/-- What a grid point writes of the input's gradient. -/
theorem dx_at (c : Dev nD) (t : Fin cfg0.N) (i : Fin 256) (j : Fin 1024) (hi : 256 * t.val + i.val < 2048) :
    k0_pay8 (iblk m c 0 t) (iblk m c 1 t) (iblk m c 2 t) (iblk m c 3 t) (iblk m c 4 t) (ix2 i j)
      = dx (dh (m ((c : Thread nD τ).loc main_arg0)) (m ((c : Thread nD τ).loc main_arg1)))
          (m ((c : Thread nD τ).loc main_arg2)) (m ((c : Thread nD τ).loc main_arg3)) (m ((c : Thread nD τ).loc main_arg4))
          (ix2 ⟨256 * t.val + i.val, hi⟩ j) := by
  have hX := fun j => dh_at m c t i j hi
  generalize k0_pay4 (iblk m c 0 t) (iblk m c 1 t) = X at hX
  pointwise [k0_pay8, k0_pay6, k0_pay5, dx, thr, ms]
  simp only [Fin.sum_univ_one, hX]
  blk_point [iblk, V, idx t]

/-- What the rows of a grid point add to the gradient of the gain. -/
def dgBlock (d x : FVec Ideal S2048x1024 .f32) (t : Fin cfg0.N) (j : Fin 1024) : EReal :=
  ∑ i : Fin 256, dgRow d x j ⟨256 * t.val + i.val, by have : t.val < 8 := t.isLt; omega⟩

/-- What a grid point adds to the gain's gradient. -/
theorem dg_at (c : Dev nD) (t : Fin cfg0.N) (A : FVec Ideal S1x1024 .f32) (j : Fin 1024) :
    k0_pay3 (k0_pay7 (iblk m c 0 t) (iblk m c 1 t) (iblk m c 2 t)) A (ix2 0 j)
      = A (ix2 0 j) + dgBlock (dh (m ((c : Thread nD τ).loc main_arg0)) (m ((c : Thread nD τ).loc main_arg1)))
          (m ((c : Thread nD τ).loc main_arg2)) t j := by
  unfold dgBlock
  have ht : t.val < 8 := t.isLt
  have hX := fun i j hi => dh_at m c t i j hi
  pointwise [k0_pay3, k0_pay7, k0_pay6, k0_pay5, dgRow, ms]
  congr 1
  refine Finset.sum_congr rfl fun i _ => ?_
  rw [hX i _ (by omega)]
  blk_point [iblk, V, idx t]

variable (c : Dev nD)

/-- The kernel's gradient of the input is `dx`, whole. -/
theorem final5 : (dats m 0 c).arrAt 5 (cfgs 0).N
    = dx (dh (m ((c : Thread nD τ).loc main_arg0)) (m ((c : Thread nD τ).loc main_arg1)))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  have ht : t.val < 8 := t.isLt
  have h0 : (y 0).val < 256 := (y 0).isLt
  have hy := dx_at m c t (y 0) (y 1) (by omega)
  have ey : y = ix2 (y 0) (y 1) := by blk_ext []
  have e : ix2 (⟨256 * t.val + (y 0).val, by omega⟩ : Fin 2048) (y 1) = ((cfg0.win 5).blk t).view.emb y := by blk_ext [idx t]
  rw [after0_5]
  by_cases h : t.val % 8 = 0
  · rw [outsAt0_A m c t h]; frame_out
    exact (congrArg (k0_pay8 _ _ _ _ _) ey).trans (hy.trans (congrArg _ e))
  · rw [outsAt0_B m c t h]; frame_out
    exact (congrArg (k0_pay8 _ _ _ _ _) ey).trans (hy.trans (congrArg _ e))

/-- The kernel's gradient of the input, rounded, is `dx`, whole. -/
theorem final6 : (dats m 0 c).arrAt 6 (cfgs 0).N
    = (show FVec Ideal S2048x1024 .bf16 from dx (dh (m ((c : Thread nD τ).loc main_arg0)) (m ((c : Thread nD τ).loc main_arg1)))
        (m ((c : Thread nD τ).loc main_arg2)) (m ((c : Thread nD τ).loc main_arg3)) (m ((c : Thread nD τ).loc main_arg4))) := by
  refine (dats m 0 c).arrAt_eq_of_covers 6 _ (by decide +kernel) fun t _ y => ?_
  blk_simp
  have ht : t.val < 8 := t.isLt
  have h0 : (y 0).val < 256 := (y 0).isLt
  have hy := dx_at m c t (y 0) (y 1) (by omega)
  have ey : y = ix2 (y 0) (y 1) := by blk_ext []
  have e : ix2 (⟨256 * t.val + (y 0).val, by omega⟩ : Fin 2048) (y 1) = ((cfg0.win 6).blk t).view.emb y := by blk_ext [idx t]
  rw [after0_6]
  by_cases h : t.val % 8 = 0
  · rw [outsAt0_A m c t h]; frame_out
    unfold k0_pay1
    exact (congrArg (k0_pay8 _ _ _ _ _) ey).trans (hy.trans (congrArg _ e))
  · rw [outsAt0_B m c t h]; frame_out
    unfold k0_pay1
    exact (congrArg (k0_pay8 _ _ _ _ _) ey).trans (hy.trans (congrArg _ e))

/-- The kernel's gradient of the gain is `dg`. -/
theorem final7 : (dats m 0 c).arrAt 7 (cfgs 0).N
    = dg (dh (m ((c : Thread nD τ).loc main_arg0)) (m ((c : Thread nD τ).loc main_arg1))) (m ((c : Thread nD τ).loc main_arg2)) := by
  refine (dats m 0 c).arrAt_eq_of_after_last 7 t0_7 (by decide +kernel) _ fun j => ?_
  blk_simp
  have ej : j = ix2 0 (j 1) := by blk_ext []
  rw [after0_7, ej]
  refine (Pipeline.eq_sum_fin_of_reset_step_apply_last (fun n h (j : Fin 1024) => (outsAt0 m c n h).2.2 (ix2 0 j)) 8 (fun _ => (0 : EReal))
    (dgBlock (dh (m ((c : Thread nD τ).loc main_arg0)) (m ((c : Thread nD τ).loc main_arg1))) (m ((c : Thread nD τ).loc main_arg2))) (fun t h j => ?_) (fun t h j => ?_) (le_of_eq N_0) t0_7 rfl (j 1)).trans ?_
  · rw [outsAt0_A m c t h]; frame_out
    refine (dg_at m c t _ j).trans ?_
    congr 1
    pointwise [k0_pay2]
  · rw [outsAt0_B m c t h]; frame_out
    exact dg_at m c t _ j
  · rw [zero_add]
    unfold dgBlock dg
    exact Fin.sum_mul_add_congr fun s k hl => by congr 2; omega

/-- Kernel and reference leave the same gradients. -/
theorem algebraic : algebraic_Kernel10Ideal_Reference10Ideal := by
  intro m g m' g' _ hagree
  refine ⟨fun c => dx (dh (m ((c : Thread nD τ).loc main_arg0)) (m ((c : Thread nD τ).loc main_arg1))) (m ((c : Thread nD τ).loc main_arg2)) (m ((c : Thread nD τ).loc main_arg3)) (m ((c : Thread nD τ).loc main_arg4)),
    fun c => (show FVec Ideal S2048x1024 .bf16 from dx (dh (m ((c : Thread nD τ).loc main_arg0)) (m ((c : Thread nD τ).loc main_arg1))) (m ((c : Thread nD τ).loc main_arg2)) (m ((c : Thread nD τ).loc main_arg3)) (m ((c : Thread nD τ).loc main_arg4))),
    fun c => dg (dh (m ((c : Thread nD τ).loc main_arg0)) (m ((c : Thread nD τ).loc main_arg1))) (m ((c : Thread nD τ).loc main_arg2)),
    (θ_run _ _ _).mono (fun r h c => ?_) (run_blocks m g), (θ_run _ _ _).mono (fun r h c => ?_) (Cert.Reference10Ideal.Value.run m' g')⟩
  · obtain ⟨h5, h6, h7, h⟩ := h c
    exact ⟨h5.trans (final5 m c), h6.trans (final6 m c), h7.trans (final7 m c), h⟩
  · obtain ⟨h5, h6, h7, h⟩ := h c
    obtain ⟨e0, e1, e2, e3, e4⟩ := hagree c
    beta_reduce
    rw [← e0, ← e1, ← e2, ← e3, ← e4]
    refine ⟨h5.trans (ref_dx m' c), h6.trans ((ref_dx16 m' c).trans (ref_dx m' c)), h7.trans ?_, h⟩
    funext i
    pointwise [dg, dgRow, ms, dh]

end Cert.Proof.MixInDx

end
-- ==== Proof.Loss.lean ====
/-
  The final norm, the squared-error loss and their gradients, on one device's rows: kernel and reference leave the same loss, the same
  gradient of the input, in both formats, and the same gradient of the norm's gain.
-/
module

public import proofs.«01_k».proof.Proof.Gen.Kernel12Ideal.Value
public import proofs.«01_k».proof.Proof.UpDx
public import proofs.«01_k».proof.Proof.Gen.Reference12Ideal.Run
public import Idealize.ShloMosaic.Lib.Pipeline.ValueKit
public import proofs.«01_k».proof.Defs

@[expose] public section

set_option maxRecDepth 16384

noncomputable section

open Idealize.ShloMosaic Idealize.ShloMosaic.TcCoe Idealize.ShloMosaic.Pointwise Idealize.SL.Sem

namespace Cert.Proof.Loss

open Cert.Kernel12Ideal Cert.Kernel12Ideal.Gen Cert.Kernel12Ideal.Value
open Cert.Proof.UpDx (ms thr dgRow dg)

variable (m : (ℓ : Loc nD τ sig) → Buf (Elt Ideal) ℓ)

/-- One half, the loss's factor. -/
def half : EReal := Ideal.ofBits FTy.f32 0x3F000000#32

/-- Its value. -/
theorem half_eq : half = ((1 / 2 : ℝ) : EReal) := by
  unfold half
  simp [Ideal.ofBits, Ideal.ieee, -EReal.coe_mul]; norm_num

/-- The f32 pattern of two. -/
theorem two_eq : Ideal.ofBits FTy.f32 0x40000000#32 = ((2 : ℝ) : EReal) := by
  simp [Ideal.ofBits, Ideal.ieee, -EReal.coe_mul]; norm_num

/-- A value twice is the value added to itself, at the infinities too. -/
theorem two_mul' (x : EReal) : Ideal.ofBits FTy.f32 0x40000000#32 * x = x + x := by
  rw [two_eq, show ((2 : ℝ) : EReal) = 1 + 1 by rw [← EReal.coe_one, ← EReal.coe_add]; norm_num,
    EReal.right_distrib_of_nonneg zero_le_one zero_le_one, one_mul]

/-- One half of a sum is the sum of the halves, at the infinities too. -/
theorem half_sum {n : ℕ} (f : Fin n → EReal) : half * ∑ i, f i = ∑ i, half * f i := by
  have h0 : (0 : EReal) ≤ half := by rw [half_eq]; exact EReal.coe_nonneg.mpr (by norm_num)
  have h1 : half ≠ ⊤ := by rw [half_eq]; exact EReal.coe_ne_top _
  exact map_sum (⟨⟨(half * ·), mul_zero _⟩, fun x y => EReal.left_distrib_of_nonneg_of_ne_top h0 h1 x y⟩ : EReal →+ EReal) f Finset.univ

/-- The normed row's difference from the target. -/
def err (x : FVec Ideal S2048x1024 .f32) (g : FVec Ideal S1x1024 .f32) (y : FVec Ideal S2048x1024 .f32) : FVec Ideal S2048x1024 .f32 :=
  fun i => x i * Ideal.rsqrt (ms x (i 0)) * g (ix2 0 (i 1)) - y i

/-- A row's mean squared difference. -/
def rowLoss (e : FVec Ideal S2048x1024 .f32) (r : Fin 2048) : EReal :=
  Ideal.div (∑ k : Fin 1024, e (ix2 r k) * e (ix2 r k)) (Ideal.ofBits FTy.f32 0x44800000#32)

/-- The loss, in each of its 128 lanes. -/
def loss (e : FVec Ideal S2048x1024 .f32) : FVec Ideal S1x128 .f32 := fun _ => half * ∑ r : Fin 2048, rowLoss e r

/-- The gradient of the normed row. -/
def cot (e : FVec Ideal S2048x1024 .f32) : FVec Ideal S2048x1024 .f32 :=
  fun i => Ideal.div half (Ideal.ofBits FTy.f32 0x44800000#32) * (Ideal.ofBits FTy.f32 0x40000000#32 * e i)

/-- The gradient of the input, through the norm. -/
def dx (d x : FVec Ideal S2048x1024 .f32) (g : FVec Ideal S1x1024 .f32) : FVec Ideal S2048x1024 .f32 :=
  fun i => d i * g (ix2 0 (i 1)) * Ideal.rsqrt (ms x (i 0)) + x i * thr d x g (i 0) + thr d x g (i 0) * x i

/-- Where each block of the grid lies. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

section

variable (m' : (ℓ : Loc Cert.Reference12Ideal.nD Cert.Reference12Ideal.τ Cert.Reference12Ideal.sig) → Buf (Elt Ideal) ℓ)
  (c : Dev Cert.Reference12Ideal.nD)

/-- The reference's gradient of the input. -/
theorem ref_dx : Cert.Reference12Ideal.Value.res_main_v48 m' c
    = dx (cot (err (m' ((c.tc : Thread Cert.Reference12Ideal.nD Cert.Reference12Ideal.τ).loc Cert.Reference12Ideal.main_arg0))
        (m' ((c.tc : Thread Cert.Reference12Ideal.nD Cert.Reference12Ideal.τ).loc Cert.Reference12Ideal.main_arg1))
        (m' ((c.tc : Thread Cert.Reference12Ideal.nD Cert.Reference12Ideal.τ).loc Cert.Reference12Ideal.main_arg2))))
      (m' ((c.tc : Thread Cert.Reference12Ideal.nD Cert.Reference12Ideal.τ).loc Cert.Reference12Ideal.main_arg0))
      (m' ((c.tc : Thread Cert.Reference12Ideal.nD Cert.Reference12Ideal.τ).loc Cert.Reference12Ideal.main_arg1)) := by
  funext i
  unfold Cert.Reference12Ideal.Value.res_main_v48
  pointwise [dx, thr, ms, cot, err, half]
  simp only [Fin.sum_univ_one]

/-- The reference's gradient of the input, rounded. -/
theorem ref_dx16 : Cert.Reference12Ideal.Value.res_main_v50 m' c = (show FVec Ideal S2048x1024 .bf16 from Cert.Reference12Ideal.Value.res_main_v48 m' c) := by
  funext i
  unfold Cert.Reference12Ideal.Value.res_main_v48 Cert.Reference12Ideal.Value.res_main_v50
  pointwise

end

variable (c : Dev nD)

/-- The normed difference of the rows at a grid point. -/
theorem err_at (t : Fin cfg0.N) (i : Fin 256) (j : Fin 1024) (hi : 256 * t.val + i.val < 2048) :
    k0_pay11 (iblk m c 0 t) (iblk m c 1 t) (iblk m c 2 t) (ix2 i j)
      = err (m ((c : Thread nD τ).loc main_arg0)) (m ((c : Thread nD τ).loc main_arg1)) (m ((c : Thread nD τ).loc main_arg2))
          (ix2 ⟨256 * t.val + i.val, hi⟩ j) := by
  pointwise [k0_pay11, k0_pay10, k0_pay8, k0_pay7, err, ms]
  blk_point [iblk, V, idx t]

/-- The gradient of the normed rows at a grid point. -/
theorem cot_at (t : Fin cfg0.N) (i : Fin 256) (j : Fin 1024) (hi : 256 * t.val + i.val < 2048) :
    k0_pay13 (iblk m c 0 t) (iblk m c 1 t) (iblk m c 2 t) (ix2 i j)
      = cot (err (m ((c : Thread nD τ).loc main_arg0)) (m ((c : Thread nD τ).loc main_arg1)) (m ((c : Thread nD τ).loc main_arg2)))
          (ix2 ⟨256 * t.val + i.val, hi⟩ j) := by
  have hX := err_at m c t i j hi
  pointwise [k0_pay13, cot, half]
  rw [hX, mul_comm _ (Ideal.div _ _), ← two_mul', mul_left_comm]

/-- What a grid point writes of the input's gradient. -/
theorem dx_at (t : Fin cfg0.N) (i : Fin 256) (j : Fin 1024) (hi : 256 * t.val + i.val < 2048) :
    k0_pay1 (iblk m c 0 t) (k0_pay8 (iblk m c 0 t)) (k0_pay9 (iblk m c 0 t)) (k0_pay13 (iblk m c 0 t) (iblk m c 1 t) (iblk m c 2 t)) (k0_pay15 (iblk m c 1 t)) (ix2 i j)
      = dx (cot (err (m ((c : Thread nD τ).loc main_arg0)) (m ((c : Thread nD τ).loc main_arg1)) (m ((c : Thread nD τ).loc main_arg2))))
          (m ((c : Thread nD τ).loc main_arg0)) (m ((c : Thread nD τ).loc main_arg1)) (ix2 ⟨256 * t.val + i.val, hi⟩ j) := by
  have hX := fun j => cot_at m c t i j hi
  pointwise [k0_pay1, k0_pay15, k0_pay9, k0_pay8, k0_pay7, dx, thr, ms]
  simp only [Fin.sum_univ_one, hX]
  blk_point [iblk, V, idx t]

/-- What the rows of a grid point add to the gradient of the gain. -/
def dgBlock (d x : FVec Ideal S2048x1024 .f32) (t : Fin cfg0.N) (j : Fin 1024) : EReal :=
  ∑ i : Fin 256, dgRow d x j ⟨256 * t.val + i.val, by have : t.val < 8 := t.isLt; omega⟩

/-- What a grid point adds to the gain's gradient. -/
theorem dg_at (t : Fin cfg0.N) (A : FVec Ideal S1x1024 .f32) (j : Fin 1024) :
    k0_pay5 (k0_pay14 (iblk m c 0 t) (iblk m c 1 t) (iblk m c 2 t)) A (ix2 0 j)
      = A (ix2 0 j) + dgBlock (cot (err (m ((c : Thread nD τ).loc main_arg0)) (m ((c : Thread nD τ).loc main_arg1)) (m ((c : Thread nD τ).loc main_arg2))))
          (m ((c : Thread nD τ).loc main_arg0)) t j := by
  unfold dgBlock
  have ht : t.val < 8 := t.isLt
  have hX := fun i j hi => cot_at m c t i j hi
  pointwise [k0_pay5, k0_pay14, k0_pay10, k0_pay8, k0_pay7, dgRow, ms]
  congr 1
  refine Finset.sum_congr rfl fun i _ => ?_
  rw [hX i _ (by omega)]
  blk_point [iblk, V, idx t]

/-- What the rows of a grid point add to the loss. -/
def lossBlock (e : FVec Ideal S2048x1024 .f32) (t : Fin cfg0.N) (_ : Fin 128) : EReal :=
  half * ∑ i : Fin 256, rowLoss e ⟨256 * t.val + i.val, by have : t.val < 8 := t.isLt; omega⟩

/-- What a grid point adds to the loss. -/
theorem loss_at (t : Fin cfg0.N) (A : FVec Ideal S1x128 .f32) (j : Fin 128) :
    k0_pay6 (k0_pay12 (iblk m c 0 t) (iblk m c 1 t) (iblk m c 2 t)) A (ix2 0 j)
      = A (ix2 0 j) + lossBlock (err (m ((c : Thread nD τ).loc main_arg0)) (m ((c : Thread nD τ).loc main_arg1)) (m ((c : Thread nD τ).loc main_arg2))) t j := by
  unfold lossBlock
  have ht : t.val < 8 := t.isLt
  have hX := fun (i : Fin 256) (j : Fin 1024) => err_at m c t i j (by omega)
  pointwise [k0_pay6, k0_pay12, half, rowLoss]
  simp only [hX]

/-- The kernel's loss. -/
theorem final3 : (dats m 0 c).arrAt 3 (cfgs 0).N
    = loss (err (m ((c : Thread nD τ).loc main_arg0)) (m ((c : Thread nD τ).loc main_arg1)) (m ((c : Thread nD τ).loc main_arg2))) := by
  refine (dats m 0 c).arrAt_eq_of_after_last 3 t0_7 (by decide +kernel) _ fun j => ?_
  blk_simp
  have ej : j = ix2 0 (j 1) := by blk_ext []
  rw [after0_3, ej]
  refine (Pipeline.eq_sum_fin_of_reset_step_apply_last (fun n h (j : Fin 128) => (outsAt0 m c n h).1 (ix2 0 j)) 8 (fun _ => (0 : EReal))
    (lossBlock (err (m ((c : Thread nD τ).loc main_arg0)) (m ((c : Thread nD τ).loc main_arg1)) (m ((c : Thread nD τ).loc main_arg2)))) (fun t h j => ?_) (fun t h j => ?_) (le_of_eq N_0) t0_7 rfl (j 1)).trans ?_
  · rw [outsAt0_A m c t h]; frame_out
    refine (loss_at m c t _ j).trans ?_
    congr 1
    pointwise [k0_pay3]
  · rw [outsAt0_B m c t h]; frame_out
    exact loss_at m c t _ j
  · rw [zero_add]
    unfold lossBlock loss
    rw [← half_sum]
    congr 1
    exact Fin.sum_mul_add_congr fun s k hl => by congr 2; omega

/-- The kernel's gradient of the input is `dx`, whole. -/
theorem final4 : (dats m 0 c).arrAt 4 (cfgs 0).N
    = dx (cot (err (m ((c : Thread nD τ).loc main_arg0)) (m ((c : Thread nD τ).loc main_arg1)) (m ((c : Thread nD τ).loc main_arg2))))
        (m ((c : Thread nD τ).loc main_arg0)) (m ((c : Thread nD τ).loc main_arg1)) := by
  refine (dats m 0 c).arrAt_eq_of_covers 4 _ (by decide +kernel) fun t _ y => ?_
  blk_simp
  have ht : t.val < 8 := t.isLt
  have h0 : (y 0).val < 256 := (y 0).isLt
  have hy := dx_at m c t (y 0) (y 1) (by omega)
  have ey : y = ix2 (y 0) (y 1) := by blk_ext []
  have e : ix2 (⟨256 * t.val + (y 0).val, by omega⟩ : Fin 2048) (y 1) = ((cfg0.win 4).blk t).view.emb y := by blk_ext [idx t]
  rw [after0_4]
  by_cases h : t.val % 8 = 0
  · rw [outsAt0_A m c t h]; frame_out
    exact (congrArg (k0_pay1 _ _ _ _ _) ey).trans (hy.trans (congrArg _ e))
  · rw [outsAt0_B m c t h]; frame_out
    exact (congrArg (k0_pay1 _ _ _ _ _) ey).trans (hy.trans (congrArg _ e))

/-- The kernel's gradient of the input, rounded, is `dx`, whole. -/
theorem final5 : (dats m 0 c).arrAt 5 (cfgs 0).N
    = (show FVec Ideal S2048x1024 .bf16 from dx (cot (err (m ((c : Thread nD τ).loc main_arg0)) (m ((c : Thread nD τ).loc main_arg1)) (m ((c : Thread nD τ).loc main_arg2))))
        (m ((c : Thread nD τ).loc main_arg0)) (m ((c : Thread nD τ).loc main_arg1))) := by
  refine (dats m 0 c).arrAt_eq_of_covers 5 _ (by decide +kernel) fun t _ y => ?_
  blk_simp
  have ht : t.val < 8 := t.isLt
  have h0 : (y 0).val < 256 := (y 0).isLt
  have hy := dx_at m c t (y 0) (y 1) (by omega)
  have ey : y = ix2 (y 0) (y 1) := by blk_ext []
  have e : ix2 (⟨256 * t.val + (y 0).val, by omega⟩ : Fin 2048) (y 1) = ((cfg0.win 5).blk t).view.emb y := by blk_ext [idx t]
  rw [after0_5]
  by_cases h : t.val % 8 = 0
  · rw [outsAt0_A m c t h]; frame_out
    unfold k0_pay4
    exact (congrArg (k0_pay1 _ _ _ _ _) ey).trans (hy.trans (congrArg _ e))
  · rw [outsAt0_B m c t h]; frame_out
    unfold k0_pay4
    exact (congrArg (k0_pay1 _ _ _ _ _) ey).trans (hy.trans (congrArg _ e))

/-- The kernel's gradient of the gain is `dg`. -/
theorem final6 : (dats m 0 c).arrAt 6 (cfgs 0).N
    = dg (cot (err (m ((c : Thread nD τ).loc main_arg0)) (m ((c : Thread nD τ).loc main_arg1)) (m ((c : Thread nD τ).loc main_arg2))))
        (m ((c : Thread nD τ).loc main_arg0)) := by
  refine (dats m 0 c).arrAt_eq_of_after_last 6 t0_7 (by decide +kernel) _ fun j => ?_
  blk_simp
  have ej : j = ix2 0 (j 1) := by blk_ext []
  rw [after0_6, ej]
  refine (Pipeline.eq_sum_fin_of_reset_step_apply_last (fun n h (j : Fin 1024) => (outsAt0 m c n h).2.2.2 (ix2 0 j)) 8 (fun _ => (0 : EReal))
    (dgBlock (cot (err (m ((c : Thread nD τ).loc main_arg0)) (m ((c : Thread nD τ).loc main_arg1)) (m ((c : Thread nD τ).loc main_arg2)))) (m ((c : Thread nD τ).loc main_arg0))) (fun t h j => ?_) (fun t h j => ?_) (le_of_eq N_0) t0_7 rfl (j 1)).trans ?_
  · rw [outsAt0_A m c t h]; frame_out
    refine (dg_at m c t _ j).trans ?_
    congr 1
    pointwise [k0_pay2]
  · rw [outsAt0_B m c t h]; frame_out
    exact dg_at m c t _ j
  · rw [zero_add]
    unfold dgBlock dg
    exact Fin.sum_mul_add_congr fun s k hl => by congr 2; omega

/-- Kernel and reference leave the same loss and the same gradients. -/
theorem algebraic : algebraic_Kernel12Ideal_Reference12Ideal := by
  intro m g m' g' _ hagree
  refine ⟨fun c => loss (err (m ((c : Thread nD τ).loc main_arg0)) (m ((c : Thread nD τ).loc main_arg1)) (m ((c : Thread nD τ).loc main_arg2))),
    fun c => dx (cot (err (m ((c : Thread nD τ).loc main_arg0)) (m ((c : Thread nD τ).loc main_arg1)) (m ((c : Thread nD τ).loc main_arg2)))) (m ((c : Thread nD τ).loc main_arg0)) (m ((c : Thread nD τ).loc main_arg1)),
    fun c => (show FVec Ideal S2048x1024 .bf16 from dx (cot (err (m ((c : Thread nD τ).loc main_arg0)) (m ((c : Thread nD τ).loc main_arg1)) (m ((c : Thread nD τ).loc main_arg2)))) (m ((c : Thread nD τ).loc main_arg0)) (m ((c : Thread nD τ).loc main_arg1))),
    fun c => dg (cot (err (m ((c : Thread nD τ).loc main_arg0)) (m ((c : Thread nD τ).loc main_arg1)) (m ((c : Thread nD τ).loc main_arg2)))) (m ((c : Thread nD τ).loc main_arg0)),
    (θ_run _ _ _).mono (fun r h c => ?_) (run_blocks m g), (θ_run _ _ _).mono (fun r h c => ?_) (Cert.Reference12Ideal.Value.run m' g')⟩
  · obtain ⟨h3, h4, h5, h6, h⟩ := h c
    exact ⟨h3.trans (final3 m c), h4.trans (final4 m c), h5.trans (final5 m c), h6.trans (final6 m c), h⟩
  · obtain ⟨h3, h4, h5, h6, h⟩ := h c
    obtain ⟨e0, e1, e2⟩ := hagree c
    beta_reduce
    rw [← e0, ← e1, ← e2]
    refine ⟨h3.trans ?_, h4.trans (ref_dx m' c), h5.trans ((ref_dx16 m' c).trans (ref_dx m' c)), h6.trans ?_, h⟩
    · funext i
      pointwise [loss, rowLoss, err, ms, half]
    · funext i
      pointwise [dg, dgRow, ms, cot, err, half]

end Cert.Proof.Loss

end
-- ==== Proof.MixIn.lean ====
/-
  An even layer's product with the mixer's in-projection and the gradient of its weight: the tiled kernels' arrays are the references'
  products.
-/
module

public import proofs.«01_k».proof.Proof.Gen.Kernel11Ideal.Frame
public import proofs.«01_k».proof.Proof.Gen.Kernel13Ideal.Frame
public import proofs.«01_k».proof.Proof.Gen.Reference11Ideal.Run
public import proofs.«01_k».proof.Proof.Gen.Reference13Ideal.Run
public import Idealize.ShloMosaic.Lib.Pipeline.ValueKit
public import proofs.«01_k».proof.Defs

@[expose] public section

set_option maxRecDepth 16384

noncomputable section

open Idealize.ShloMosaic Idealize.ShloMosaic.TcCoe Idealize.ShloMosaic.Pointwise Idealize.SL.Sem

namespace Cert.Proof.MixInDw

open Cert.Kernel11Ideal Cert.Kernel11Ideal.Gen

variable (m : (ℓ : Loc nD τ sig) → Buf (Elt Ideal) ℓ)

/-- The gradient of the weight: the transposed normed input times the incoming gradient. -/
def dw (h : FVec Ideal S2048x1024 .bf16) (dp : FVec Ideal S2048x4224 .bf16) : FVec Ideal S1024x4224 .bf16 :=
  fun i => ∑ k : Fin 2048, h (ix2 k (i 0)) * dp (ix2 k (i 1))

/-- Where each block of the grid lies. -/
theorem idx : ∀ t : Fin cfg0.N, win0_0.index t = ![0, (grid0.coords t 0).val] ∧ win0_1.index t = ![0, (grid0.coords t 1).val]
    ∧ win0_2.index t = ![(grid0.coords t 0).val, (grid0.coords t 1).val] :=
  (by decide +kernel : ∀ t : Fin grid0.N, _)

/-- The kernel's result is the gradient, whole. -/
theorem final (c : Dev nD) : (dats m 0 c).arrAt 2 (cfgs 0).N
    = dw (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, dw]
  blk_point [iblk, V, idx t]

/-- Kernel and reference leave the same gradient. -/
theorem algebraic : algebraic_Kernel11Ideal_Reference11Ideal := by
  pair_intro
  · run_from Cert.Kernel11Ideal.Gen.run_main m g
  · run_from Cert.Reference11Ideal.Value.run m' g'
    rw [final m c]
    funext i
    pointwise [dw]
    exact Finset.sum_congr rfl fun k _ => mul_comm _ _

end Cert.Proof.MixInDw

namespace Cert.Proof.MixIn

open Cert.Kernel13Ideal Cert.Kernel13Ideal.Gen

variable (m : (ℓ : Loc nD τ sig) → Buf (Elt Ideal) ℓ)

/-- The projected input: the normed input times the weight. -/
def prod (h : FVec Ideal S2048x1024 .bf16) (w : FVec Ideal S1024x4224 .bf16) : FVec Ideal S2048x4224 .f32 :=
  fun i => ∑ k : Fin 1024, h (ix2 (i 0) k) * w (ix2 k (i 1))

/-- Where each block of the grid lies. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The kernel's result is the product, whole. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, prod]
  blk_point [iblk, V, idx t]

/-- Kernel and reference leave the same product. -/
theorem algebraic : algebraic_Kernel13Ideal_Reference13Ideal := by
  pair_intro
  · run_from Cert.Kernel13Ideal.Gen.run_main m g
  · run_from Cert.Reference13Ideal.Value.run m' g'
    rw [final m c]
    funext i
    pointwise [prod]

end Cert.Proof.MixIn

end
-- ==== Proof.Spec.lean ====
/-
  One chunk of the gated delta rule, one head at a time, over extended reals: 64 tokens, 128 key lanes, 128 value
  lanes. No program is mentioned here; the kernels and the references are each shown to compute these functions.
-/
module

public import Idealize.ShloMosaic.PureOps.Ideal
public import Idealize.ShloMosaic.Lib.Pipeline.ValueKit
public import Idealize.ShloMosaic.Lib.Pointwise

@[expose] public section

noncomputable section

namespace Cert.Proof.Spec

open Idealize.ShloMosaic
open scoped BigOperators

/-- The column, among the 512 of four heads side by side, of head `h`'s lane `v`. -/
def col (h : Fin 4) (v : Fin 128) : Fin 512 := ⟨128 * h.val + v.val, by have := h.isLt; have := v.isLt; omega⟩

/-- The first head's columns are its lanes. -/
theorem col_zero (v : Fin 128) : col 0 v = ⟨v.val, by have := v.isLt; omega⟩ := Fin.ext (Nat.zero_add _)

/-- The values the chunk writes into the state: `u - w S`. -/
def vNew (u w : Fin 64 → Fin 128 → EReal) (s : Fin 128 → Fin 128 → EReal) (c : Fin 64) (v : Fin 128) : EReal :=
  u c v - ∑ k, w c k * s k v

/-- The chunk's output before its norm: the decayed queries against the state, plus the scores against `vn`. -/
def out (q : Fin 64 → Fin 128 → EReal) (a : Fin 64 → Fin 64 → EReal) (s : Fin 128 → Fin 128 → EReal)
    (vn : Fin 64 → Fin 128 → EReal) (c : Fin 64) (v : Fin 128) : EReal :=
  (∑ k, q c k * s k v) + ∑ i, a c i * vn i v

/-- The state after the chunk: the state decayed, plus the decayed keys against `vn`. -/
def next (kd : Fin 64 → Fin 128 → EReal) (d : Fin 128 → EReal) (s : Fin 128 → Fin 128 → EReal)
    (vn : Fin 64 → Fin 128 → EReal) (k v : Fin 128) : EReal :=
  s k v * d v + ∑ c, kd c k * vn c v

/-- The reciprocal root of a row's mean square, with the norm's floor. -/
def rinv (o : Fin 64 → Fin 128 → EReal) (c : Fin 64) : EReal :=
  Ideal.rsqrt (Ideal.div (∑ x, o c x * o c x) (Ideal.ofBits FTy.f32 0x43000000#32) + Ideal.ofBits FTy.f32 0x358637BD#32)

/-- The logistic function. -/
def sig (x : EReal) : EReal := Ideal.div 1 (1 + Ideal.exp (-x))

/-- The normed output times its gain, gated by `z · sig z`. -/
def gated (o z : Fin 64 → Fin 128 → EReal) (g : Fin 128 → EReal) (c : Fin 64) (v : Fin 128) : EReal :=
  o c v * rinv o c * g v * (z c v * sig (z c v))

end Cert.Proof.Spec

end
-- ==== Proof.Gate.lean ====
/-
  The backward pass of the feed-forward block's gate `silu(gate) · val`: kernel and reference leave the same two gradients.
-/
module

public import proofs.«01_k».proof.Proof.Gen.Kernel14Ideal.Frame
public import proofs.«01_k».proof.Proof.Gen.Reference14Ideal.Run
public import proofs.«01_k».proof.Proof.Spec
public import Idealize.ShloMosaic.Lib.Pipeline.ValueKit
public import proofs.«01_k».proof.Defs

@[expose] public section

set_option maxRecDepth 16384

noncomputable section

open Idealize.ShloMosaic Idealize.ShloMosaic.TcCoe Idealize.ShloMosaic.Pointwise Idealize.SL.Sem

namespace Cert.Proof.Gate

open Cert.Kernel14Ideal Cert.Kernel14Ideal.Gen

variable (m : (ℓ : Loc nD τ sig) → Buf (Elt Ideal) ℓ)

/-- The gradient of the gate's input, at an entry. -/
def toGate (g v d : EReal) : EReal :=
  d * v * Ideal.logistic g + g * (d * v) * (Ideal.logistic g * (1 - Ideal.logistic g))

/-- The gradient of the gated value, at an entry. -/
def toVal (g d : EReal) : EReal := g * Ideal.logistic g * d

/-- The gradient of the gate's input. The values lie in the right half of their array. -/
def dGate (g : FVec Ideal S2048x2816 .bf16) (up : FVec Ideal S2048x5632 .bf16) (d : FVec Ideal S2048x2816 .bf16) :
    FVec Ideal S2048x2816 .bf16 :=
  fun i => toGate (g i) (up (ix2 (i 0) ⟨2816 + (i 1).val, by have : (i 1).val < 2816 := (i 1).isLt; omega⟩)) (d i)

/-- The gradient of the gated values. -/
def dVal (g d : FVec Ideal S2048x2816 .bf16) : FVec Ideal S2048x2816 .bf16 := fun i => toVal (g i) (d i)

/-- Where each block of the grid lies. -/
theorem idx : ∀ t : Fin cfg0.N, win0_0.index t = ![(grid0.coords t 0).val, (grid0.coords t 1).val]
    ∧ win0_1.index t = ![(grid0.coords t 0).val, (grid0.coords t 1).val + 2]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val + 2] :=
  (by decide +kernel : ∀ t : Fin grid0.N, _)

/-- What a grid point leaves of the gate's gradient. -/
theorem out3 (x0 x1 x2 : FVec Ideal S256x1408 .bf16) (y : S256x1408.Idx) : out0_3 (F := Ideal) x0 x1 x2 y = toGate (x0 y) (x1 y) (x2 y) := by
  unfold_out out0_3
  canon_tiles x hx
  all_goals
    open_payloads
    pointwise [toGate]
    blk_point []

/-- What a grid point leaves of the values' gradient. -/
theorem out4 (x0 x1 x2 : FVec Ideal S256x1408 .bf16) (y : S256x1408.Idx) : out0_4 (F := Ideal) x0 x1 x2 y = toVal (x0 y) (x2 y) := by
  unfold_out out0_4
  canon_tiles x hx
  all_goals
    open_payloads
    pointwise [toVal]
    blk_point []

/-- The kernel's gradient of the gate's input, whole. -/
theorem final3 (c : Dev nD) : (dats m 0 c).arrAt 3 (cfgs 0).N
    = dGate (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (out3 _ _ _ _).trans ?_
  unfold dGate
  blk_point [iblk, V, V0, idx t]

/-- The kernel's gradient of the values, in the half it writes. -/
theorem final4 (c : Dev nD) (i : S2048x5632.Idx) (hi : 2816 ≤ (i 1).val) : (dats m 0 c).arrAt 4 (cfgs 0).N i
    = dVal (m ((c : Thread nD τ).loc main_arg0)) (m ((c : Thread nD τ).loc main_arg2))
        (ix2 (i 0) ⟨(i 1).val - 2816, by have : (i 1).val < 5632 := (i 1).isLt; omega⟩) := by
  refine ((dats m 0 c).arrAt_apply_of_coversWhere 4 (fun i => dVal (m ((c : Thread nD τ).loc main_arg0)) (m ((c : Thread nD τ).loc main_arg2))
      (ix2 (i 0) ⟨(i 1).val - 2816, by have : (i 1).val < 5632 := (i 1).isLt; omega⟩))
    (P := fun i => 2816 ≤ (i 1).val) (fun β => 2 ≤ β 1) (by decide +kernel) (fun t _ y => ?_)
    (fun j => by blk_simp [Pipeline.Window.cell_apply]; omega) i).trans (if_pos hi)
  blk_simp
  rw [after0_4]
  refine (out4 _ _ _ _).trans ?_
  unfold dVal
  blk_point [iblk, V, V0, idx t]

/-- Kernel and reference leave the same gradients. -/
theorem algebraic : algebraic_Kernel14Ideal_Reference14Ideal := by
  pair_intro
  · run_from Cert.Kernel14Ideal.Gen.run_main m g
  · run_from Cert.Reference14Ideal.Value.run m' g'
    on_goal 2 =>
      unfold Pipeline.afterTail₀ hostOps1
      simp only [List.flatten_cons, List.flatten_nil, List.append_nil]
      after_results
      rw [show Pipeline.withArrays (cfgs 0).spec c (V0 m c) (fun w => (dats m 0 c).arrAt w (cfgs 0).N) (Proc.tc.devRef main_v0_1)
        = (dats m 0 c).arrAt 4 (cfgs 0).N from Pipeline.withArrays_arr (cfgs 0).spec (by decide +kernel) c _ _ 4]
      funext i
      idx_vars i
      pointwise
      rw [final4 m c _ (by show 2816 ≤ 2816 + _; omega)]
      pointwise [dVal, toVal, Ideal.logistic]
    · rw [final3]
      funext i
      pointwise [dGate, toGate, Ideal.logistic]

end Cert.Proof.Gate

end
-- ==== Proof.ConvBwdPoint.lean ====
/-
  The backward pass of the causal three-tap convolution over the rows: what each grid point of the kernel leaves.
-/
module

public import proofs.«01_k».proof.Proof.Gen.Kernel9Ideal.Frame
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.ShloMosaic.Pointwise Idealize.SL.Sem

namespace Cert.Proof.ConvBwd

open Cert.Kernel9Ideal Cert.Kernel9Ideal.Gen

variable (m : (ℓ : Loc nD τ sig) → Buf (Elt Ideal) ℓ)

/-- Where each block of the grid lies. -/
theorem idx : ∀ t : Fin cfg0.N, win0_0.index t = ![(grid0.coords t 1).val, (grid0.coords t 0).val]
    ∧ win0_1.index t = ![min 127 (16 * (grid0.coords t 1).val + 16), (grid0.coords t 0).val]
    ∧ win0_2.index t = ![(grid0.coords t 1).val, (grid0.coords t 0).val]
    ∧ win0_3.index t = ![16 * (grid0.coords t 1).val - 1, (grid0.coords t 0).val]
    ∧ win0_4.index t = ![0, (grid0.coords t 0).val]
    ∧ win0_5.index t = ![(grid0.coords t 1).val, (grid0.coords t 0).val]
    ∧ win0_6.index t = ![0, (grid0.coords t 0).val]
    ∧ win0_7.index t = ![0, (grid0.coords t 0).val] :=
  (by decide +kernel : ∀ t : Fin grid0.N, _)

/-- An array's entry by its row's number: zero past the last row. -/
def rowOr0 {n k : ℕ} {φ : FTy} (x : FVec Ideal ⟨2, ![n, k]⟩ φ) (r : ℕ) (j : Fin k) : EReal :=
  if h : r < n then x (ix2 ⟨r, h⟩ j) else 0

/-- The column of the array that column `b` of grid point `t`'s blocks is. -/
def col (t : Fin cfg0.N) (b : Fin 1408) : Fin 2816 :=
  ⟨1408 * (grid0.coords t 0).val + b.val, by have : (grid0.coords t 0).val < 2 := (grid0.coords t 0).isLt; have := b.isLt; omega⟩

/-- The incoming gradient. -/
abbrev dc (c : Dev nD) : FVec Ideal S2048x2816 .bf16 := m ((c : Thread nD τ).loc main_arg0)

/-- The convolution's input, in the left half of its array. -/
abbrev src (c : Dev nD) : FVec Ideal S2048x5632 .bf16 := m ((c : Thread nD τ).loc main_arg1)

/-- The incoming gradient's row `r` after a grid point's first. -/
def dcAt (c : Dev nD) (t : Fin cfg0.N) (r : ℕ) (b : Fin 1408) : EReal :=
  rowOr0 (dc m c) (256 * (grid0.coords t 1).val + r) (col t b)

/-- The input's row `r` after a grid point's first, eight rows late: zero before the first row. -/
def srcAt (c : Dev nD) (t : Fin cfg0.N) (r : ℕ) (b : Fin 1408) : EReal :=
  if 8 ≤ 256 * (grid0.coords t 1).val + r then
    rowOr0 (src m c) (256 * (grid0.coords t 1).val + r - 8) ⟨(col t b).val, by have := (col t b).isLt; omega⟩
  else 0

/-- The input's gradient at row `r` of a grid point. -/
def dxAt (c : Dev nD) (t : Fin cfg0.N) (w : FVec Ideal S3x1408 .f32) (r : ℕ) (b : Fin 1408) : EReal :=
  w (ix2 0 b) * dcAt m c t (r + 2) b + w (ix2 1 b) * dcAt m c t (r + 1) b
    + w (ix2 2 b) * dcAt m c t r b

/-- Three products of taps and rows are the gradient at the row they stand at. -/
theorem dxAt_of (c : Dev nD) (t : Fin cfg0.N) (w : FVec Ideal S3x1408 .f32) {r r0 r1 r2 : ℕ} {b b' : Fin 1408} (h0 : r0 = r + 2) (h1 : r1 = r + 1) (h2 : r2 = r)
    (hb : b = b') : w (ix2 0 b) * dcAt m c t r0 b + w (ix2 1 b) * dcAt m c t r1 b
      + w (ix2 2 b) * dcAt m c t r2 b = dxAt m c t w r b' := by
  subst h0 h1 h2 hb; rfl

/-- Whether a grid point is the last of its column tile. -/
theorem last_at : ∀ t : Fin cfg0.N, Scalar.cmpi .eq (BitVec.ofNat 32 (grid0.coords t 1).val) 7#32
    = BitVec.ofBool (decide ((grid0.coords t 1).val = 7)) :=
  (by decide +kernel : ∀ t : Fin grid0.N, _)

/-- Whether a grid point is the first of its column tile. -/
theorem first_at : ∀ t : Fin cfg0.N, Scalar.cmpi .eq (BitVec.ofNat 32 (grid0.coords t 1).val) 0#32
    = BitVec.ofBool (decide ((grid0.coords t 1).val = 0)) :=
  (by decide +kernel : ∀ t : Fin grid0.N, _)

/-- Equal rows and columns hold equal entries. -/
theorem dcAt_congr (c : Dev nD) (t : Fin cfg0.N) {r r' : ℕ} {b b' : Fin 1408} (hr : r = r') (hb : b = b') :
    dcAt m c t r b = dcAt m c t r' b' := by subst hr hb; rfl

/-- Equal rows and columns hold equal entries. -/
theorem srcAt_congr (c : Dev nD) (t : Fin cfg0.N) {r r' : ℕ} {b b' : Fin 1408} (hr : r = r') (hb : b = b') :
    srcAt m c t r b = srcAt m c t r' b' := by subst hr hb; rfl

/-- Past the last row the incoming gradient is zero. -/
theorem dcAt_last (c : Dev nD) (t : Fin cfg0.N) (h : (grid0.coords t 1).val = 7) {r : ℕ} (hr : 256 ≤ r) (b : Fin 1408) :
    dcAt m c t r b = 0 := by
  unfold dcAt rowOr0
  rw [dif_neg (by omega)]

/-- Before the first row the input is zero. -/
theorem srcAt_first (c : Dev nD) (t : Fin cfg0.N) (h : (grid0.coords t 1).val = 0) {r : ℕ} (hr : r < 8) (b : Fin 1408) :
    srcAt m c t r b = 0 := by
  unfold srcAt
  rw [if_neg (by omega)]

/-- A sum over eight rows of sums over thirty-two is the sum over all the rows. -/
theorem sum_rows (L : Fin 8 → EReal) (f : ℕ → EReal) (h : ∀ x : Fin 8, L x = ∑ j : Fin 32, f (8 * j.val + x.val)) :
    ∑ x, L x = ∑ r : Fin 256, f r.val := by
  rw [← (finProdFinEquiv : Fin 32 × Fin 8 ≃ Fin 256).sum_comp, Fintype.sum_prod_type_right]
  refine Finset.sum_congr rfl fun s _ => (h s).trans (Finset.sum_congr rfl fun q _ => congrArg f ?_)
  show 8 * q.val + s.val = s.val + 8 * q.val
  omega

/-- The same of products of rows `k` apart. -/
theorem sum_rows_mul (L : Fin 8 → EReal) (p q : ℕ → EReal) (k : ℕ)
    (h : ∀ x : Fin 8, L x = ∑ j : Fin 32, p (8 * j.val + x.val) * q (8 * j.val + k + x.val)) :
    ∑ x, L x = ∑ r : Fin 256, p r.val * q (r.val + k) :=
  sum_rows L (fun r => p r * q (r + k)) fun x => (h x).trans (Finset.sum_congr rfl fun j _ => by
    show _ = p _ * q (8 * j.val + x.val + k)
    rw [Nat.add_right_comm])

/-- What a grid point adds to the taps' gradient: row `k` is the gradient's rows times the input's rows `2 - k` before. -/
def dwTerm (c : Dev nD) (t : Fin cfg0.N) (k : ℕ) (b : Fin 1408) : EReal :=
  if k < 3 then ∑ r : Fin 256, dcAt m c t r.val b * srcAt m c t (r.val + (6 + k)) b else 0

/-- The block of the incoming gradient. -/
theorem blk0 (c : Dev nD) (t : Fin cfg0.N) (x : S256x1408.Idx) :
    iblk m c 0 t x = dcAt m c t (x 0).val (x 1) := by
  have hi : (grid0.coords t 1).val < 8 := (grid0.coords t 1).isLt
  have hx : (x 0).val < 256 := (x 0).isLt
  unfold dcAt rowOr0
  unfold iblk
  rw [show V m c (Pipeline.arrRef spec0 0) = m ((c : Thread nD τ).loc main_arg0) from V_main_arg0 m c, dif_pos (by omega)]
  blk_ext [idx t, col]

/-- The block of the incoming gradient's next rows. -/
theorem blk1 (c : Dev nD) (t : Fin cfg0.N) (x : S8x1408.Idx) (h7 : (grid0.coords t 1).val ≠ 7) :
    iblk m c 1 t (ix2 ⟨(x 0).val, by have : (x 0).val < 8 := (x 0).isLt; omega⟩ (x 1))
      = dcAt m c t (256 + (x 0).val) (x 1) := by
  have hi : (grid0.coords t 1).val < 8 := (grid0.coords t 1).isLt
  have hx : (x 0).val < 8 := (x 0).isLt
  unfold dcAt rowOr0
  unfold iblk
  rw [show V m c (Pipeline.arrRef spec0 1) = m ((c : Thread nD τ).loc main_arg0) from V_main_arg0 m c, dif_pos (by omega)]
  blk_ext [idx t, col]

/-- The block of the input. -/
theorem blk2 (c : Dev nD) (t : Fin cfg0.N) (x : S256x1408.Idx) : iblk m c 2 t x = srcAt m c t (8 + (x 0).val) (x 1) := by
  have hi : (grid0.coords t 1).val < 8 := (grid0.coords t 1).isLt
  have hx : (x 0).val < 256 := (x 0).isLt
  unfold srcAt rowOr0
  unfold iblk
  rw [show V m c (Pipeline.arrRef spec0 2) = m ((c : Thread nD τ).loc main_arg1) from V_main_arg1 m c, if_pos (by omega), dif_pos (by omega)]
  blk_ext [idx t, col]

/-- The block of the input's rows before. -/
theorem blk3 (c : Dev nD) (t : Fin cfg0.N) (x : S8x1408.Idx) (h7 : (grid0.coords t 1).val ≠ 0) :
    iblk m c 3 t (ix2 ⟨8 + (x 0).val, by have : (x 0).val < 8 := (x 0).isLt; omega⟩ (x 1)) = srcAt m c t (x 0).val (x 1) := by
  have hi : (grid0.coords t 1).val < 8 := (grid0.coords t 1).isLt
  have hx : (x 0).val < 8 := (x 0).isLt
  unfold srcAt rowOr0
  unfold iblk
  rw [show V m c (Pipeline.arrRef spec0 3) = m ((c : Thread nD τ).loc main_arg1) from V_main_arg1 m c, if_pos (by omega), dif_pos (by omega)]
  blk_ext [idx t, col]

/-- The block of the taps. -/
theorem blk4 (c : Dev nD) (t : Fin cfg0.N) (k : Fin 3) (b : Fin 1408) :
    iblk m c 4 t (ix2 k b) = m ((c : Thread nD τ).loc main_arg2) (ix2 k (col t b)) := by
  unfold iblk
  rw [show V m c (Pipeline.arrRef spec0 4) = m ((c : Thread nD τ).loc main_arg2) from V_main_arg2 m c]
  blk_ext [idx t, col]

set_option maxHeartbeats 4000000 in
/-- What a grid point leaves of the input's gradient. -/
theorem dx_at (c : Dev nD) (t : Fin cfg0.N) (y : S256x1408.Idx) :
    (outsAt0 m c t.val t.isLt).1 y = dxAt m c t (iblk m c 4 t) (y 0).val (y 1) := by
  by_cases h0 : t.val % 8 = 0
  on_goal 1 => rw [outsAt0_A m c t h0]
  on_goal 2 => rw [outsAt0_B m c t h0]
  all_goals
    dsimp only
    frame_open
    simp only [View.readCov_eq_canon' (s := S264x1408)]
    try simp (disch := decide) only [↓ View.readCov_skip, ↓ View.readCov_cons_toLoadRect, ↓ View.readCov_fill]
    frame_out
    generalize hD : View.canon (Val := Elt Ideal) (s := S264x1408) (e := .f32) _ = D
    have eD : ∀ y, D y = dcAt m c t (y 0).val (y 1) := by
      intro y
      rw [← hD]
      canon_tiles x hx using View.cover_of_tiledBy _ ![8, 1408] (by sl_kernel_rfl) _
      all_goals
        open_payloads
        try simp only [last_at]
      on_goal 2 =>
        pointwise
        exact (blk0 m c t x).trans (dcAt_congr m c t hx0.symm (Fin.ext hx1.symm))
      by_cases h7 : (grid0.coords t 1).val = 7
      all_goals simp only [h7, decide_true, decide_false, BitVec.ofBool_true, BitVec.ofBool_false]
      all_goals pointwise
      on_goal 1 => exact (dcAt_last m c t h7 (by omega) _).symm
      exact (blk1 m c t x h7).trans (dcAt_congr m c t hx0.symm (Fin.ext hx1.symm))
    simp only [eD]
    canon_tiles x hx
    all_goals
      open_payloads
      pointwise
      exact dxAt_of m c t _ (by omega) (by omega) (by omega) (Fin.ext hx1.symm)

set_option maxHeartbeats 4000000 in
/-- What a grid point leaves of the taps' gradient: what the point before left, unless it is its column tile's first, and its own part. -/
theorem dw_at (c : Dev nD) (t : Fin cfg0.N) (k : Fin 8) (b : Fin 1408) : (outsAt0 m c t.val t.isLt).2.1 (ix2 k b)
    = (if t.val % 8 = 0 then 0 else (outsAt0 m c (t.val - 1) (Nat.lt_of_le_of_lt (Nat.sub_le _ _) t.isLt)).2.1 (ix2 k b))
      + dwTerm m c t k.val b := by
  by_cases h0 : t.val % 8 = 0
  on_goal 1 => rw [outsAt0_A m c t h0]
  on_goal 2 => rw [outsAt0_B m c t h0]
  all_goals
    dsimp only
    frame_open
    simp only [View.readCov_eq_canon' (s := S264x1408)]
    try simp (disch := decide) only [↓ View.readCov_skip, ↓ View.readCov_cons_toLoadRect, ↓ View.readCov_fill]
    frame_out
    generalize hD : View.canon (Val := Elt Ideal) (s := S264x1408) (e := .f32) _ = D
    generalize hX : View.canon (Val := Elt Ideal) (s := S264x1408) (e := .f32) _ = X
    have eD : ∀ y, D y = dcAt m c t (y 0).val (y 1) := by
      intro y
      rw [← hD]
      canon_tiles x hx using View.cover_of_tiledBy _ ![8, 1408] (by sl_kernel_rfl) _
      all_goals
        open_payloads
        try simp only [last_at]
      on_goal 2 =>
        pointwise
        exact (blk0 m c t x).trans (dcAt_congr m c t hx0.symm (Fin.ext hx1.symm))
      by_cases h7 : (grid0.coords t 1).val = 7
      all_goals simp only [h7, decide_true, decide_false, BitVec.ofBool_true, BitVec.ofBool_false]
      all_goals pointwise
      on_goal 1 => exact (dcAt_last m c t h7 (by omega) _).symm
      exact (blk1 m c t x h7).trans (dcAt_congr m c t hx0.symm (Fin.ext hx1.symm))
    have eX : ∀ y, X y = srcAt m c t (y 0).val (y 1) := by
      intro y
      rw [← hX]
      canon_tiles x hx using View.cover_of_tiledBy _ ![8, 1408] (by sl_kernel_rfl) _
      all_goals
        open_payloads
        try simp only [first_at]
      on_goal 1 =>
        pointwise
        exact (blk2 m c t x).trans (srcAt_congr m c t hx0.symm (Fin.ext hx1.symm))
      by_cases h7 : (grid0.coords t 1).val = 0
      all_goals simp only [h7, decide_true, decide_false, BitVec.ofBool_true, BitVec.ofBool_false]
      all_goals pointwise
      on_goal 1 => exact (srcAt_first m c t h7 (by omega) _).symm
      exact (blk3 m c t x h7).trans (srcAt_congr m c t hx0.symm (Fin.ext hx1.symm))
  on_goal 1 =>
    rw [← View.read_writes_junk_apply_eq_canon (ms0_6 t).view, if_pos h0]
  on_goal 2 =>
    rw [if_neg h0]
    generalize (outsAt0 m c (t.val - 1) _).2.1 = S
  all_goals
    have eD' : ∀ r b, D (ix2 r b) = dcAt m c t r.val b := fun r b => eD (ix2 r b)
    have eX' : ∀ r b, X (ix2 r b) = srcAt m c t r.val b := fun r b => eX (ix2 r b)
    unfold dwTerm
    obtain h | h | h | h : k.val = 0 ∨ k.val = 1 ∨ k.val = 2 ∨ 3 ≤ k.val := by omega
    on_goal 4 =>
      rw [View.read_writes_cons_rows_of_not_mem (o := 2) (W := 1) _ _ _ _ _ _ rfl rfl (by show k.val < _ ∨ _ ≤ k.val; omega)]
      rw [View.read_writes_cons_rows_of_not_mem (o := 1) (W := 1) _ _ _ _ _ _ rfl rfl (by show k.val < _ ∨ _ ≤ k.val; omega)]
      rw [View.read_writes_cons_rows_of_not_mem (o := 0) (W := 1) _ _ _ _ _ _ rfl rfl (by show k.val < _ ∨ _ ≤ k.val; omega)]
      rw [if_neg (by omega), add_zero]
    on_goal 1 =>
      rw [View.read_writes_cons_rows_of_not_mem (o := 2) (W := 1) _ _ _ _ _ _ rfl rfl (by show k.val < _ ∨ _ ≤ k.val; omega)]
      rw [View.read_writes_cons_rows_of_not_mem (o := 1) (W := 1) _ _ _ _ _ _ rfl rfl (by show k.val < _ ∨ _ ≤ k.val; omega)]
      refine (View.read_writes_cons_rows_of_mem (o := 0) _ _ _ _ _ (ix2 k b) (ix2 (0 : Fin 1) b) rfl (by show k.val = 0 + 0; omega) (by rfl)).trans ?_
      obtain rfl : k = 0 := Fin.ext h
    on_goal 2 =>
      rw [View.read_writes_cons_rows_of_not_mem (o := 2) (W := 1) _ _ _ _ _ _ rfl rfl (by show k.val < _ ∨ _ ≤ k.val; omega)]
      refine (View.read_writes_cons_rows_of_mem (o := 1) _ _ _ _ _ (ix2 k b) (ix2 (0 : Fin 1) b) rfl (by show k.val = 1 + 0; omega) (by rfl)).trans ?_
      obtain rfl : k = 1 := Fin.ext h
    on_goal 3 =>
      refine (View.read_writes_cons_rows_of_mem (o := 2) _ _ _ _ _ (ix2 k b) (ix2 (0 : Fin 1) b) rfl (by show k.val = 2 + 0; omega) (by rfl)).trans ?_
      obtain rfl : k = 2 := Fin.ext h
  on_goal 4 =>
    refine (View.read_writes_cons_rows_of_mem (o := 0) _ _ _ _ _ (ix2 k b) (ix2 k b) rfl (by show k.val = 0 + k.val; omega) (by rfl)).trans ?_
    open_payloads
    pointwise
  on_goal 7 => exact congrFun (Memref.IsWhole.read_unread (hs0_6 t) S) (ix2 k b)
  all_goals
    rw [if_pos (by decide)]
    open_payloads
    pointwise
    simp only [eD', eX', Fin.isValue, Fin.coe_ofNat_eq_mod, Nat.reduceMod, Nat.zero_mod]
  all_goals
    try simp only [zero_add]
    try refine congrArg (_ + ·) ?_
    refine sum_rows_mul _ (fun r => dcAt m c t r b) (fun r => srcAt m c t r b) _ fun x => ?_
    simp only [Fin.sum_univ_ofNat, Fin.isValue, Fin.coe_ofNat_eq_mod, Nat.reduceMod, Nat.zero_mod, Nat.mul_zero, Nat.mul_one, Nat.reduceMul, Nat.reduceAdd,
      Nat.zero_add, ← add_assoc]

set_option maxHeartbeats 4000000 in
/-- What a grid point leaves of the bias's gradient. -/
theorem db_at (c : Dev nD) (t : Fin cfg0.N) (b : Fin 1408) : (outsAt0 m c t.val t.isLt).2.2 (ix2 0 b)
    = (if t.val % 8 = 0 then 0 else (outsAt0 m c (t.val - 1) (Nat.lt_of_le_of_lt (Nat.sub_le _ _) t.isLt)).2.2 (ix2 0 b))
      + ∑ r : Fin 256, dcAt m c t r.val b := by
  by_cases h0 : t.val % 8 = 0
  on_goal 1 => rw [outsAt0_A m c t h0]
  on_goal 2 => rw [outsAt0_B m c t h0]
  all_goals
    dsimp only
    frame_open
    simp only [View.readCov_eq_canon' (s := S264x1408)]
    try simp (disch := decide) only [↓ View.readCov_skip, ↓ View.readCov_cons_toLoadRect, ↓ View.readCov_fill]
    frame_out
    generalize hD : View.canon (Val := Elt Ideal) (s := S264x1408) (e := .f32) _ = D
    have eD : ∀ y, D y = dcAt m c t (y 0).val (y 1) := by
      intro y
      rw [← hD]
      canon_tiles x hx using View.cover_of_tiledBy _ ![8, 1408] (by sl_kernel_rfl) _
      all_goals
        open_payloads
        try simp only [last_at]
      on_goal 2 =>
        pointwise
        exact (blk0 m c t x).trans (dcAt_congr m c t hx0.symm (Fin.ext hx1.symm))
      by_cases h7 : (grid0.coords t 1).val = 7
      all_goals simp only [h7, decide_true, decide_false, BitVec.ofBool_true, BitVec.ofBool_false]
      all_goals pointwise
      on_goal 1 => exact (dcAt_last m c t h7 (by omega) _).symm
      exact (blk1 m c t x h7).trans (dcAt_congr m c t hx0.symm (Fin.ext hx1.symm))
  on_goal 1 => rw [if_pos h0]
  on_goal 2 => rw [if_neg h0]
  all_goals
    have eD' : ∀ r b, D (ix2 r b) = dcAt m c t r.val b := fun r b => eD (ix2 r b)
    open_payloads
    pointwise
    simp only [eD']
  on_goal 2 => refine congrArg (_ + ·) ?_
  all_goals
    refine sum_rows _ (fun r => dcAt m c t r b) fun x => ?_
    simp only [Fin.sum_univ_ofNat, Fin.isValue, Fin.coe_ofNat_eq_mod, Nat.reduceMod, Nat.zero_mod, Nat.mul_zero, Nat.mul_one, Nat.reduceMul, Nat.reduceAdd,
      Nat.zero_add, ← add_assoc]

end Cert.Proof.ConvBwd

end
-- ==== Proof.ConvBwdArrays.lean ====
/-
  The backward pass of the causal three-tap convolution over the rows: what the kernel leaves of each gradient, whole.
-/
module

public import proofs.«01_k».proof.Proof.ConvBwdPoint

@[expose] public section

set_option maxRecDepth 16384

noncomputable section

open Idealize.ShloMosaic Idealize.ShloMosaic.TcCoe Idealize.ShloMosaic.Pointwise Idealize.SL.Sem

namespace Cert.Proof.ConvBwd

open Cert.Kernel9Ideal Cert.Kernel9Ideal.Gen

variable (m : (ℓ : Loc nD τ sig) → Buf (Elt Ideal) ℓ)

/-- The input's gradient: each tap times the incoming gradient of the row it feeds, none past the last row. -/
def dxRow (g : FVec Ideal S2048x2816 .bf16) (w : FVec Ideal S3x2816 .f32) (r : ℕ) (j : Fin 2816) : EReal :=
  w (ix2 0 j) * rowOr0 g (r + 2) j + w (ix2 1 j) * rowOr0 g (r + 1) j + w (ix2 2 j) * rowOr0 g r j

/-- The input two rows late: zero before the first row. -/
def lateRow (x : FVec Ideal S2048x5632 .bf16) (r : ℕ) (j : Fin 2816) : EReal :=
  if 2 ≤ r then rowOr0 x (r - 2) ⟨j.val, by have := j.isLt; omega⟩ else 0

/-- The taps' gradient: over all rows, the incoming gradient times the input `2 - k` rows before; the rows past the third zero. -/
def dwAll (g : FVec Ideal S2048x2816 .bf16) (x : FVec Ideal S2048x5632 .bf16) : FVec Ideal S8x2816 .f32 := fun i =>
  if (i 0).val < 3 then ∑ r : Fin 2048, rowOr0 g r.val (i 1) * lateRow x (r.val + (i 0).val) (i 1) else 0

/-- The bias's gradient: the incoming gradient summed over the rows. -/
def dbAll (g : FVec Ideal S2048x2816 .bf16) : FVec Ideal S1x2816 .f32 := fun i => ∑ r : Fin 2048, rowOr0 g r.val (i 1)

/-- The column within the left half that a column of the whole array is. -/
def half (j : Fin 5632) : Fin 2816 := ⟨j.val % 2816, Nat.mod_lt _ (by omega)⟩

/-- The array that the kernel leaves: the input's gradient in the left half, the array given to it in the right. -/
def dxAll (g : FVec Ideal S2048x2816 .bf16) (w : FVec Ideal S3x2816 .f32) (a : FVec Ideal S2048x5632 .bf16) : FVec Ideal S2048x5632 .bf16 := fun i =>
  if (i 1).val < 2816 then dxRow g w (i 0).val (half (i 1)) else a i

/-- A grid point's column tile and row tile. -/
theorem at_point : ∀ t : Fin cfg0.N, (grid0.coords t 0).val = t.val / 8 ∧ (grid0.coords t 1).val = t.val % 8 :=
  (by decide +kernel : ∀ t : Fin grid0.N, _)

/-- A grid point's part of the input's gradient, by its row in the array. -/
theorem dxAt_eq (c : Dev nD) (t : Fin cfg0.N) (r : ℕ) (b : Fin 1408) : dxAt m c t (iblk m c 4 t) r b
    = dxRow (dc m c) (m ((c : Thread nD τ).loc main_arg2)) (256 * (grid0.coords t 1).val + r) (col t b) := by
  unfold dxAt dcAt dxRow
  rw [blk4 m c t, blk4 m c t, blk4 m c t]
  simp only [← Nat.add_assoc]

/-- The points of a column tile stand in the same columns. -/
theorem col_run (t : Fin cfg0.N) (s : Fin 8) (h : 8 * (t.val / 8) + s.val < cfg0.N) (b : Fin 1408) :
    col ⟨8 * (t.val / 8) + s.val, h⟩ b = col t b := by
  have h0 := (at_point ⟨8 * (t.val / 8) + s.val, h⟩).1
  have h1 := (at_point t).1
  refine Fin.ext ?_
  unfold col
  show 1408 * (grid0.coords ⟨8 * (t.val / 8) + s.val, h⟩ 0).val + b.val = 1408 * (grid0.coords t 0).val + b.val
  rw [h0, h1]
  show 1408 * ((8 * (t.val / 8) + s.val) / 8) + b.val = _
  omega

/-- The incoming gradient at a point of a column tile, by its row in the array. -/
theorem dcAt_run (c : Dev nD) (t : Fin cfg0.N) (s : Fin 8) (h : 8 * (t.val / 8) + s.val < cfg0.N) (r : ℕ) (b : Fin 1408) :
    dcAt m c ⟨8 * (t.val / 8) + s.val, h⟩ r b = rowOr0 (dc m c) (s.val * 256 + r) (col t b) := by
  have h1 : (grid0.coords ⟨8 * (t.val / 8) + s.val, h⟩ 1).val = (8 * (t.val / 8) + s.val) % 8 := (at_point _).2
  unfold dcAt
  rw [col_run, h1]
  congr 1
  omega

/-- The input at a point of a column tile, by its row in the array. -/
theorem srcAt_run (c : Dev nD) (t : Fin cfg0.N) (s : Fin 8) (h : 8 * (t.val / 8) + s.val < cfg0.N) (r k : ℕ) (b : Fin 1408) :
    srcAt m c ⟨8 * (t.val / 8) + s.val, h⟩ (r + (6 + k)) b = lateRow (src m c) (s.val * 256 + r + k) (col t b) := by
  have h1 : (grid0.coords ⟨8 * (t.val / 8) + s.val, h⟩ 1).val = (8 * (t.val / 8) + s.val) % 8 := (at_point _).2
  unfold srcAt lateRow
  simp only [col_run, h1]
  refine if_congr (by omega) ?_ rfl
  congr 1
  omega

set_option maxHeartbeats 1000000 in
/-- The kernel's gradient of the convolution's input, with the half it does not write. -/
theorem final5 (c : Dev nD) : (dats m 0 c).arrAt 5 (cfgs 0).N
    = dxAll (dc m c) (m ((c : Thread nD τ).loc main_arg2)) (m ((c : Thread nD τ).loc main_arg3)) := by
  funext i
  refine ((dats m 0 c).arrAt_apply_of_coversWhere 5
    (fun i => dxRow (dc m c) (m ((c : Thread nD τ).loc main_arg2)) (i 0).val (half (i 1)))
    (P := fun i => (i 1).val < 2816) (fun β => β 1 < 2) (by decide +kernel) (fun t _ y => ?_)
    (fun j => by blk_simp [Pipeline.Window.cell_apply]; omega) i).trans ?_
  · blk_simp
    rw [after0_5]
    refine (dx_at m c t y).trans ((dxAt_eq m c t _ _).trans ?_)
    have e0 : win0_5.index t 0 * 256 + (y 0).val = 256 * (grid0.coords t 1).val + (y 0).val := by
      blk_simp [idx t]
      omega
    have e : ((((cfg0.win 5).blk t).view.emb y) 1).val = 1408 * (grid0.coords t 0).val + (y 1).val := by
      blk_simp [idx t]
      omega
    have e1 : half ((((cfg0.win 5).blk t).view.emb y) 1) = col t (y 1) := by
      have h1 : (y 1).val < 1408 := (y 1).isLt
      have h0 : (grid0.coords t 0).val < 2 := (grid0.coords t 0).isLt
      refine Fin.ext ?_
      show ((((cfg0.win 5).blk t).view.emb y) 1).val % 2816 = 1408 * (grid0.coords t 0).val + (y 1).val
      rw [e]
      omega
    exact (congrArg₂ (dxRow (dc m c) (m ((c : Thread nD τ).loc main_arg2))) e0 e1).symm
  · refine if_congr Iff.rfl rfl ?_
    rw [A_eq m c 5]
    show V m c main_v0_0 i = _
    unfold V
    after_results
    rfl

/-- The kernel's gradient of the taps. -/
theorem final6 (c : Dev nD) : (dats m 0 c).arrAt 6 (cfgs 0).N = dwAll (dc m c) (src m c) := by
  refine (dats m 0 c).arrAt_eq_of_covers 6 _ (by decide +kernel) fun t hf y => ?_
  blk_simp
  have ey : y = ix2 (y 0) (y 1) := by blk_ext []
  rw [after0_6]
  refine (congrArg _ ey).trans ?_
  refine (Pipeline.eq_sum_fin_of_reset_step_apply_of_flush (fun n h (j : Fin 8 × Fin 1408) => (outsAt0 m c n h).2.1 (ix2 j.1 j.2)) 8
    (fun _ => (0 : EReal)) (fun t j => dwTerm m c t j.1.val j.2)
    (fun t h j => (dw_at m c t j.1 j.2).trans (by rw [if_pos h]))
    (fun t h j => (dw_at m c t j.1 j.2).trans (by rw [if_neg h])) t ((flush0_6 t).mp hf) (y 0, y 1)).trans ?_
  have e0 : ((((cfg0.win 6).blk t).view.emb y) 0).val = (y 0).val := by
    blk_simp [idx t]
  have e : ((((cfg0.win 6).blk t).view.emb y) 1).val = 1408 * (grid0.coords t 0).val + (y 1).val := by
    blk_simp [idx t]
    omega
  have e1 : (((cfg0.win 6).blk t).view.emb y) 1 = col t (y 1) := Fin.ext e
  rw [zero_add]
  unfold dwAll dwTerm
  rw [e0, e1]
  by_cases hk : (y 0).val < 3
  · simp only [if_pos hk]
    exact Fin.sum_mul_add_congr fun s r hl =>
      congrArg₂ (· * ·) (dcAt_run m c t s _ r.val (y 1)) (srcAt_run m c t s _ r.val (y 0).val (y 1))
  · simp only [if_neg hk, Finset.sum_const_zero]

/-- The kernel's gradient of the bias. -/
theorem final7 (c : Dev nD) : (dats m 0 c).arrAt 7 (cfgs 0).N = dbAll (dc m c) := by
  refine (dats m 0 c).arrAt_eq_of_covers 7 _ (by decide +kernel) fun t hf y => ?_
  blk_simp
  have ey : y = ix2 0 (y 1) := by blk_ext []
  rw [after0_7]
  refine (congrArg _ ey).trans ?_
  refine (Pipeline.eq_sum_fin_of_reset_step_apply_of_flush (fun n h (j : Fin 1408) => (outsAt0 m c n h).2.2 (ix2 0 j)) 8
    (fun _ => (0 : EReal)) (fun t j => ∑ r : Fin 256, dcAt m c t r.val j)
    (fun t h j => (db_at m c t j).trans (by rw [if_pos h]))
    (fun t h j => (db_at m c t j).trans (by rw [if_neg h])) t ((flush0_7 t).mp hf) (y 1)).trans ?_
  have e : ((((cfg0.win 7).blk t).view.emb y) 1).val = 1408 * (grid0.coords t 0).val + (y 1).val := by
    blk_simp [idx t]
    omega
  have e1 : (((cfg0.win 7).blk t).view.emb y) 1 = col t (y 1) := Fin.ext e
  rw [zero_add]
  unfold dbAll
  rw [e1]
  exact Fin.sum_mul_add_congr fun s r hl => dcAt_run m c t s _ r.val (y 1)

end Cert.Proof.ConvBwd

end
-- ==== Proof.ConvBwd.lean ====
/-
  The backward pass of the causal three-tap convolution over the rows: kernel and reference leave the same gradients.
-/
module

public import proofs.«01_k».proof.Proof.ConvBwdArrays
public import proofs.«01_k».proof.Proof.Gen.Kernel9Ideal.Value
public import proofs.«01_k».proof.Proof.Gen.Reference9Ideal.Run
public import proofs.«01_k».proof.Proof.Spec
public import proofs.«01_k».proof.Defs

@[expose] public section

set_option maxRecDepth 16384

noncomputable section

open Idealize.ShloMosaic Idealize.ShloMosaic.TcCoe Idealize.ShloMosaic.Pointwise Idealize.SL.Sem

namespace Cert.Proof.ConvBwd

open Cert.Kernel9Ideal Cert.Kernel9Ideal.Gen Cert.Kernel9Ideal.Value

/-- An array's entry at a row it has. -/
theorem rowOr0_val {n k : ℕ} {φ : FTy} (x : FVec Ideal ⟨2, ![n, k]⟩ φ) (r : Fin n) (j : Fin k) : rowOr0 x r.val j = x (ix2 r j) :=
  dif_pos r.isLt

/-- The input two rows late, at a row that has one two before. -/
theorem lateRow_at (x : FVec Ideal S2048x5632 .bf16) (r : ℕ) (hr : r < 2048) (j : Fin 2816) :
    lateRow x (r + 2) j = x (ix2 ⟨r, hr⟩ ⟨j.val, by have := j.isLt; omega⟩) := by
  unfold lateRow
  rw [if_pos (by omega)]
  exact rowOr0_val x ⟨r, hr⟩ _

/-- A sum over the rows, cut after the first `n`. -/
theorem sum_cut {N n p : ℕ} (h : n + p = N) (f : ℕ → EReal) :
    ∑ r : Fin N, f r.val = ∑ r : Fin n, f r.val + ∑ r : Fin p, f (n + r.val) := by
  subst h
  exact Fin.sum_univ_add _

/-- The gradient of the tap that reads `n` rows back: the first `n` rows add nothing. -/
theorem dw_split (g : FVec Ideal S2048x2816 .bf16) (x : FVec Ideal S2048x5632 .bf16) (j : Fin 2816) {n p : ℕ} (h : n + p = 2048) (k : ℕ)
    (hk : k + n = 2) : ∑ r : Fin 2048, rowOr0 g r.val j * lateRow x (r.val + k) j
      = ∑ r : Fin p, x (ix2 ⟨r.val, by have := r.isLt; omega⟩ ⟨j.val, by have := j.isLt; omega⟩)
        * g (ix2 ⟨n + r.val, by have := r.isLt; omega⟩ j) := by
  refine (sum_cut h fun r => rowOr0 g r j * lateRow x (r + k) j).trans ?_
  have e : ∑ r : Fin n, rowOr0 g r.val j * lateRow x (r.val + k) j = 0 := Finset.sum_eq_zero fun r _ => by
    have := r.isLt
    unfold lateRow
    rw [if_neg (by omega), mul_zero]
  refine (congrArg (· + _) e).trans ((zero_add _).trans (Finset.sum_congr rfl fun r _ => ?_))
  have := r.isLt
  show rowOr0 g (n + r.val) j * lateRow x (n + r.val + k) j = _
  rw [show n + r.val + k = r.val + 2 by omega, lateRow_at x r.val (by omega), mul_comm]
  exact congrArg _ (rowOr0_val g ⟨n + r.val, by omega⟩ j)

/-- The gradient of the tap that reads the row itself. -/
theorem dw_whole (g : FVec Ideal S2048x2816 .bf16) (x : FVec Ideal S2048x5632 .bf16) (j : Fin 2816) :
    ∑ r : Fin 2048, rowOr0 g r.val j * lateRow x (r.val + 2) j
      = ∑ r : Fin 2048, x (ix2 r ⟨j.val, by have := j.isLt; omega⟩) * g (ix2 r j) :=
  Finset.sum_congr rfl fun r _ => by rw [rowOr0_val, lateRow_at x r.val r.isLt, mul_comm]

/-- The gradient `d` rows on times a tap, where there is such a row. -/
theorem next_mul (g : S2048x2816.Idx → EReal) {q d : ℕ} (h : q + d = 2048) (r : ℕ) (j : Fin 2816) (w : EReal) :
    (if h' : r < q ∧ j.val < 2816 then g (ix2 ⟨d + r, by omega⟩ ⟨j.val, h'.2⟩) * w else 0) = w * rowOr0 (φ := .bf16) g (r + d) j := by
  by_cases hr : r < q
  · rw [dif_pos ⟨hr, j.isLt⟩, Nat.add_comm r d, mul_comm]
    exact congrArg _ (rowOr0_val (φ := .bf16) g ⟨d + r, by omega⟩ j).symm
  · rw [dif_neg fun h' => hr h'.1]
    unfold rowOr0
    rw [dif_neg (by omega), mul_zero]

/-- The three products of taps and gradients, added up from the row itself on. -/
theorem dx_row (g : S2048x2816.Idx → EReal) (w : S3x2816.Idx → EReal) (r : Fin 2048) (j : Fin 2816) :
    g (ix2 r j) * w (ix2 2 j)
        + (if h : r.val < 2047 ∧ j.val < 2816 then g (ix2 ⟨1 + r.val, by omega⟩ ⟨j.val, h.2⟩) * w (ix2 1 j) else 0)
        + (if h : r.val < 2046 ∧ j.val < 2816 then g (ix2 ⟨2 + r.val, by omega⟩ ⟨j.val, h.2⟩) * w (ix2 0 j) else 0)
      = w (ix2 0 j) * rowOr0 (φ := .bf16) g (r.val + 2) j + w (ix2 1 j) * rowOr0 (φ := .bf16) g (r.val + 1) j
        + w (ix2 2 j) * rowOr0 (φ := .bf16) g r.val j := by
  rw [next_mul g (q := 2047) (d := 1) rfl r.val j, next_mul g (q := 2046) (d := 2) rfl r.val j, rowOr0_val,
    add_comm (_ + _) (w (ix2 0 j) * _), add_comm (g (ix2 r j) * _), mul_comm (g (ix2 r j)), add_assoc]

set_option maxHeartbeats 4000000 in
/-- Kernel and reference leave the same gradients. -/
theorem algebraic : algebraic_Kernel9Ideal_Reference9Ideal := by
  intro m g m' g' _ hagree
  refine ⟨fun c => dxAll (dc m c) (m ((c : Thread nD τ).loc main_arg2)) (m ((c : Thread nD τ).loc main_arg3)),
    fun c => dwAll (dc m c) (src m c), fun c => dbAll (dc m c),
    (θ_run _ _ _).mono (fun r h c => ?_) (run_blocks m g), (θ_run _ _ _).mono (fun r h c => ?_) (Cert.Reference9Ideal.Value.run m' g')⟩
  · obtain ⟨h5, h6, h7, h⟩ := h c
    exact ⟨h5.trans (final5 m c), h6.trans (final6 m c), h7.trans (final7 m c), h⟩
  · obtain ⟨h5, h6, h7, h⟩ := h c
    obtain ⟨e0, e1, e2, e3⟩ := hagree c
    beta_reduce
    refine ⟨h5.trans ?_, h6.trans ?_, h7.trans ?_, h⟩
    all_goals clear h5 h6 h7 h
    all_goals
      rw [e0]
      try rw [e1]
      try rw [e2]
      try rw [e3]
      try unfold dc
      try unfold src
      generalize m ((c : Thread nD τ).loc main_arg0) = G
      try generalize m ((c : Thread nD τ).loc main_arg1) = X
      try generalize m ((c : Thread nD τ).loc main_arg2) = W
      try generalize m ((c : Thread nD τ).loc main_arg3) = A
    on_goal 3 =>
      funext i
      pointwise [dbAll]
      exact Finset.sum_congr rfl fun r _ => (rowOr0_val G r (i 1)).symm
    all_goals
      funext i
    · pointwise [dxAll, dxRow]
      by_cases h : (i 1).val < 2816
      · rw [dif_pos h, if_pos h, show half (i 1) = ⟨(i 1).val, h⟩ from Fin.ext (Nat.mod_eq_of_lt h)]
        exact dx_row G W (i 0) ⟨(i 1).val, h⟩
      · rw [dif_neg h, if_neg h]
        blk_ext []
    · pointwise [dwAll]
      by_cases h : (i 0).val < 3
      · rw [dif_pos h, if_pos h]
        obtain h | h | h : (i 0).val = 0 ∨ (i 0).val = 1 ∨ (i 0).val = 2 := by omega
        · rw [dif_neg (by omega), dif_neg (by omega), dif_pos (by omega), h]
          simp only [zero_mul, Finset.sum_const_zero, zero_add]
          exact (dw_split G X (i 1) (n := 2) (p := 2046) rfl 0 rfl).symm
        · rw [dif_neg (by omega), dif_pos (by omega), dif_neg (by omega), h]
          simp only [zero_mul, Finset.sum_const_zero, zero_add, add_zero]
          exact (dw_split G X (i 1) (n := 1) (p := 2047) rfl 1 rfl).symm
        · rw [dif_pos (by omega), dif_neg (by omega), dif_neg (by omega), h, add_zero, add_zero]
          exact (dw_whole G X (i 1)).symm
      · rw [dif_neg h, if_neg h]

end Cert.Proof.ConvBwd

end
-- ==== Proof.Prefix.lean ====
/-
  Stores over an earlier fill of the whole buffer.
-/
module

public import Idealize.ShloMosaic.Lib.Pipeline.ReadBack

@[expose] public section

noncomputable section

open Idealize.ShloMosaic

namespace Cert.Proof.Prefix

variable {Val : EltTy → Type} [∀ e, Nonempty (Val e)] {s : Shape} {e : EltTy}

/-- At an index some later store covers, the earlier stores do not count. -/
theorem canon_append : ∀ (L L' : List (View.Piece Val s e)) (y : s.Idx), (∃ p ∈ L, y ∈ p.1.set) → View.canon (L ++ L') y = View.canon L y
  | [], _, _, ⟨_, hp, _⟩ => absurd hp List.not_mem_nil
  | p :: L, L', y, h => by
    by_cases hy : y ∈ p.1.set
    · obtain ⟨x, rfl⟩ := p.1.exists_idx_of_mem hy
      exact (View.canon_cons_emb p.1 p.2 (L ++ L') x).trans (View.canon_cons_emb p.1 p.2 L x).symm
    · refine (View.canon_cons_of_not_mem p (L ++ L') hy).trans (Eq.trans (canon_append L L' y ?_) (View.canon_cons_of_not_mem p L hy).symm)
      obtain ⟨q, hq, hyq⟩ := h
      rcases List.mem_cons.mp hq with rfl | hq
      · exact absurd hyq hy
      · exact ⟨q, hq, hyq⟩

/-- Four stores that cover the buffer, over one earlier store. -/
theorem canon_four (p₀ p₁ p₂ p₃ q : View.Piece Val s e) (y : s.Idx) (h : ∃ p ∈ [p₀, p₁, p₂, p₃], y ∈ p.1.set) :
    View.canon [p₀, p₁, p₂, p₃, q] y = View.canon [p₀, p₁, p₂, p₃] y :=
  canon_append [p₀, p₁, p₂, p₃] [q] y h

end Cert.Proof.Prefix

end
-- ==== Proof.FwdKernel.lean ====
/-
  The forward scan's kernel: what one grid point leaves in the carried state, the output block and the states block, in the words of
  Spec.lean.
-/
module

public import proofs.«01_k».proof.Proof.Gen.Kernel2Ideal.Value
public import proofs.«01_k».proof.Proof.Spec
public import proofs.«01_k».proof.Proof.Prefix

@[expose] public section

set_option maxRecDepth 16384

noncomputable section

open Idealize.ShloMosaic Idealize.ShloMosaic.Pointwise Idealize.SL.Sem
open Cert.Kernel2Ideal Cert.Kernel2Ideal.Gen Cert.Proof.Spec

namespace Cert.Proof.FwdKernel

variable (m : (ℓ : Loc nD τ sig) → Buf (Elt Ideal) ℓ) (c : Dev nD) (t : Fin cfg0.N) (h : Fin 4)

/-- The state a grid point starts from: zero at the first one, else what the point before left. -/
def carried : Vec Ideal S4x128x128 .f32 :=
  if t.val % 32 = 0 then k0_pay2 (F := Ideal) else (outsAt0 m c (t.val - 1) (Nat.lt_of_le_of_lt (Nat.sub_le _ _) t.isLt)).2.2

/-- The values a grid point writes, of head `h`. -/
def vn : Fin 64 → Fin 128 → EReal :=
  vNew (fun i v => iblk m c 0 t (ix2 i (col h v))) (fun i k => iblk m c 1 t (ix2 i (col h k))) (fun k v => carried m c t (ix3 h k v))

/-- The output before its norm, of head `h`. -/
def o : Fin 64 → Fin 128 → EReal :=
  out (fun i k => iblk m c 2 t (ix2 i (col h k))) (fun i j => iblk m c 4 t (ix4 0 h i j)) (fun k v => carried m c t (ix3 h k v)) (vn m c t h)

/-- The state a grid point leaves. -/
theorem state_at (k v : Fin 128) : (outsAt0 m c t.val t.isLt).2.2 (ix3 h k v)
    = next (fun i k => iblk m c 3 t (ix2 i (col h k))) (fun v => iblk m c 5 t (ix3 0 h v)) (fun k v => carried m c t (ix3 h k v))
        (vn m c t h) k v := by
  unfold vn carried
  split
  all_goals rename_i h0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
  on_goal 2 =>
    simp only [read_unread_whole]
    generalize (outsAt0 m c (t.val - 1) _).2.2 = S
  on_goal 1 =>
    refine (Prefix.canon_four _ _ _ _ _ _ ?_).trans ?_
    · exact View.cover_of_tiledL (s := S4x128x128) _ S1x128x128.size (by sl_kernel_rfl) _
    generalize k0_pay2 (F := Ideal) = S
  all_goals
    generalize iblk m c 0 t = X0, iblk m c 1 t = X1, iblk m c 3 t = X3, iblk m c 5 t = X5
    canon_tiles x hx
    all_goals
      open_payloads
      have e0 : (x 0).val = 0 := by omega
      rw [e0] at hx0
      obtain ⟨h, hh⟩ := h
      obtain rfl : h = _ := hx0
      obtain rfl : x = ix3 0 k v := funext fun a => Fin.ext (by fin_cases a; exacts [e0, hx1.symm, hx2.symm])
      pointwise
      first | rfl | (simp only [col_zero]; rfl)

/-- The states block a grid point writes is the state it started from. -/
theorem states_at (k v : Fin 128) : (outsAt0 m c t.val t.isLt).2.1 (ix4 0 h k v) = carried m c t (ix3 h k v) := by
  unfold carried
  split
  all_goals rename_i h0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
  on_goal 2 =>
    simp only [read_unread_whole]
    generalize (outsAt0 m c (t.val - 1) _).2.2 = S
  on_goal 1 =>
    generalize k0_pay2 (F := Ideal) = S
  all_goals
    canon_tiles x hx
    all_goals
      open_payloads
      have e0 : (x 1).val = 0 := by omega
      have e0' : (x 0).val = 0 := by omega
      rw [e0] at hx1
      obtain ⟨h, hh⟩ := h
      obtain rfl : h = _ := hx1
      obtain rfl : x = ix4 0 0 k v := funext fun a => Fin.ext (by fin_cases a; exacts [e0', e0, hx2.symm, hx3.symm])
      pointwise

/-- The output block a grid point writes. -/
theorem out_at (i : Fin 64) (v : Fin 128) : (outsAt0 m c t.val t.isLt).1 (ix2 i (col h v))
    = gated (o m c t h) (fun i v => X0_6 m c t (ix2 i (col h v))) (fun v => iblk m c 7 t (ix2 0 v)) i v := by
  unfold o vn carried
  split
  all_goals rename_i h0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
  on_goal 2 =>
    simp only [read_unread_whole]
    generalize (outsAt0 m c (t.val - 1) _).2.2 = S
  on_goal 1 =>
    generalize k0_pay2 (F := Ideal) = S
  all_goals
    generalize iblk m c 0 t = X0, iblk m c 1 t = X1, iblk m c 2 t = X2, iblk m c 4 t = X4, iblk m c 7 t = X7, X0_6 m c t = X6
    canon_tiles x hx
    all_goals
      open_payloads
      obtain ⟨h, hh⟩ := h
      have e0 : 128 * h + v.val = _ := hx1
      have hv := v.isLt
      interval_cases h <;> first | (exfalso; omega) | skip
      obtain rfl : x = ix2 i v := funext fun a => Fin.ext (by fin_cases a; exacts [hx0.symm, (by show (x 1).val = v.val; omega)])
      pointwise
      first | rfl | (simp only [col_zero]; rfl)

end Cert.Proof.FwdKernel

end
-- ==== Proof.Slices.lean ====
/-
  A slice of a stack of 32 arrays, taken or stored at a start given as a word, at an index.
-/
module

public import Idealize.ShloMosaic.PureOps.Ideal
public import Idealize.ShloMosaic.Lib.DynamicIndex
public import Idealize.ShloMosaic.Lib.Pipeline.ValueKit
public import Idealize.ShloMosaic.Lib.Pointwise

@[expose] public section

noncomputable section

open Idealize.ShloMosaic Idealize.ShloMosaic.Pointwise

namespace Cert.Proof.Slices

/-- A slice of a stack of 32 arrays of two axes, at a start equal to `n`. -/
theorem slice3 {A B : ℕ} (X : (⟨3, ![32, A, B]⟩ : Shape).Idx → EReal) (st : Fin 3 → Int) (n : Fin 32)
    (h : (⟨3, ![32, A, B]⟩ : Shape).Slices (fun _ => 0) ⟨3, ![1, A, B]⟩)
    (e : ∀ a, st a = ((![n.val, 0, 0] : Fin 3 → ℕ) a : Int)) :
    Host.dynamicSlice ⟨3, ![1, A, B]⟩ X st h = fun i => X (ix3 n (i 1) (i 2)) := by
  have ho : (⟨3, ![32, A, B]⟩ : Shape).Slices ![n.val, 0, 0] ⟨3, ![1, A, B]⟩ :=
    ⟨rfl, fun a => by have := n.isLt; fin_cases a <;> simp <;> omega⟩
  rw [Host.dynamicSlice_eq_extractStridedSlice _ X st ![n.val, 0, 0] h ho e]
  funext j
  have h0 : (j 0).val = 0 := Nat.lt_one_iff.mp (j 0).isLt
  refine congrArg X (funext fun i => Fin.ext ?_)
  fin_cases i <;> simp [ix3, h0]

/-- A slice of a stack of 32 arrays of three axes, at a start equal to `n`. -/
theorem slice4 {A B C : ℕ} (X : (⟨4, ![32, A, B, C]⟩ : Shape).Idx → EReal) (st : Fin 4 → Int) (n : Fin 32)
    (h : (⟨4, ![32, A, B, C]⟩ : Shape).Slices (fun _ => 0) ⟨4, ![1, A, B, C]⟩)
    (e : ∀ a, st a = ((![n.val, 0, 0, 0] : Fin 4 → ℕ) a : Int)) :
    Host.dynamicSlice ⟨4, ![1, A, B, C]⟩ X st h = fun i => X (ix4 n (i 1) (i 2) (i 3)) := by
  have ho : (⟨4, ![32, A, B, C]⟩ : Shape).Slices ![n.val, 0, 0, 0] ⟨4, ![1, A, B, C]⟩ :=
    ⟨rfl, fun a => by have := n.isLt; fin_cases a <;> simp <;> omega⟩
  rw [Host.dynamicSlice_eq_extractStridedSlice _ X st ![n.val, 0, 0, 0] h ho e]
  funext j
  have h0 : (j 0).val = 0 := Nat.lt_one_iff.mp (j 0).isLt
  refine congrArg X (funext fun i => Fin.ext ?_)
  fin_cases i <;> simp [ix4, h0]

/-- A stack of 32 arrays of two axes after a slice is stored at a start equal to `n`: that slice at `n`, the stack elsewhere. -/
theorem store3 {A B : ℕ} (X : (⟨3, ![32, A, B]⟩ : Shape).Idx → EReal) (Y : (⟨3, ![1, A, B]⟩ : Shape).Idx → EReal)
    (st : Fin 3 → Int) (n m : Fin 32)
    (h : (⟨3, ![32, A, B]⟩ : Shape).Slices (fun _ => 0) ⟨3, ![1, A, B]⟩)
    (e : ∀ a, st a = ((![n.val, 0, 0] : Fin 3 → ℕ) a : Int)) (a : Fin A) (b : Fin B) :
    Host.dynamicUpdateSlice X Y st h (ix3 m a b) = if m = n then Y (ix3 0 a b) else X (ix3 m a b) := by
  have ho : (⟨3, ![32, A, B]⟩ : Shape).Slices ![n.val, 0, 0] ⟨3, ![1, A, B]⟩ :=
    ⟨rfl, fun a => by have := n.isLt; fin_cases a <;> simp <;> omega⟩
  rw [Host.dynamicUpdateSlice_eq_updateSlice X Y st h ![n.val, 0, 0] (fun a => ?_) ho]
  · pointwise
    by_cases hm : m = n
    · subst hm
      rw [dif_pos ⟨le_rfl, Nat.lt_succ_self _⟩, if_pos rfl]
      refine congrArg Y (funext fun i => Fin.ext ?_)
      fin_cases i <;> simp [ix3, Shape.Idx.norm]
    · rw [dif_neg (fun h => hm (Fin.ext (by omega))), if_neg hm]
  · rw [e a]; have := n.isLt; fin_cases a <;> simp <;> omega

/-- A stack of 32 arrays of three axes after a slice is stored at a start equal to `n`: that slice at `n`, the stack elsewhere. -/
theorem store4 {A B C : ℕ} (X : (⟨4, ![32, A, B, C]⟩ : Shape).Idx → EReal) (Y : (⟨4, ![1, A, B, C]⟩ : Shape).Idx → EReal)
    (st : Fin 4 → Int) (n m : Fin 32)
    (h : (⟨4, ![32, A, B, C]⟩ : Shape).Slices (fun _ => 0) ⟨4, ![1, A, B, C]⟩)
    (e : ∀ a, st a = ((![n.val, 0, 0, 0] : Fin 4 → ℕ) a : Int)) (a : Fin A) (b : Fin B) (c : Fin C) :
    Host.dynamicUpdateSlice X Y st h (ix4 m a b c) = if m = n then Y (ix4 0 a b c) else X (ix4 m a b c) := by
  have ho : (⟨4, ![32, A, B, C]⟩ : Shape).Slices ![n.val, 0, 0, 0] ⟨4, ![1, A, B, C]⟩ :=
    ⟨rfl, fun a => by have := n.isLt; fin_cases a <;> simp <;> omega⟩
  rw [Host.dynamicUpdateSlice_eq_updateSlice X Y st h ![n.val, 0, 0, 0] (fun a => ?_) ho]
  · pointwise
    by_cases hm : m = n
    · subst hm
      rw [dif_pos ⟨le_rfl, Nat.lt_succ_self _⟩, if_pos rfl]
      refine congrArg Y (funext fun i => Fin.ext ?_)
      fin_cases i <;> simp [ix4, Shape.Idx.norm]
    · rw [dif_neg (fun h => hm (Fin.ext (by omega))), if_neg hm]
  · rw [e a]; have := n.isLt; fin_cases a <;> simp <;> omega

end Cert.Proof.Slices

end
-- ==== Proof.FwdRef.lean ====
/-
  The forward scan's reference: what one trip of the scan over the chunks leaves, in the words of Spec.lean.
-/
module

public import proofs.«01_k».proof.Proof.Gen.Reference2Ideal.Step
public import proofs.«01_k».proof.Proof.Spec
public import proofs.«01_k».proof.Proof.Slices

@[expose] public section

set_option maxRecDepth 16384

noncomputable section

open Idealize.ShloMosaic Idealize.ShloMosaic.Pointwise Idealize.SL.Sem
open Cert.Reference2Ideal Cert.Reference2Ideal.Step

namespace Cert.Proof.FwdRef

variable (n : Fin 32) (s : State Ideal) (h : Fin 4)

/-- The trip's start words are `(n, 0, 0, 0)`. -/
theorem start4 (z₁ z₂ z₃ : (⟨S_, .i32⟩ : BufTy).Contents (Elt Ideal)) (e₁ : z₁ = constantI S_ 32 0#32)
    (e₂ : z₂ = constantI S_ 32 0#32) (e₃ : z₃ = constantI S_ 32 0#32) (i : S_.Idx) (a : Fin 4) :
    ((![(constantI S_ 32 (BitVec.ofNat 32 n.val) : (⟨S_, .i32⟩ : BufTy).Contents (Elt Ideal)), z₁, z₂, z₃] :
      Fin 4 → (⟨S_, .i32⟩ : BufTy).Contents (Elt Ideal)) a i).toInt = ((![n.val, 0, 0, 0] : Fin 4 → ℕ) a : Int) := by
  subst e₁ e₂ e₃
  fin_cases a
  · exact toInt_ofNat_of_lt (by have := n.isLt; omega)
  · rfl
  · rfl
  · rfl

/-- The trip's start words are `(n, 0, 0)`. -/
theorem start3 (z₁ z₂ : (⟨S_, .i32⟩ : BufTy).Contents (Elt Ideal)) (e₁ : z₁ = constantI S_ 32 0#32)
    (e₂ : z₂ = constantI S_ 32 0#32) (i : S_.Idx) (a : Fin 3) :
    ((![(constantI S_ 32 (BitVec.ofNat 32 n.val) : (⟨S_, .i32⟩ : BufTy).Contents (Elt Ideal)), z₁, z₂] :
      Fin 3 → (⟨S_, .i32⟩ : BufTy).Contents (Elt Ideal)) a i).toInt = ((![n.val, 0, 0] : Fin 3 → ℕ) a : Int) := by
  subst e₁ e₂
  fin_cases a
  · exact toInt_ofNat_of_lt (by have := n.isLt; omega)
  · rfl
  · rfl

/-- The trip's chunk: its values. -/
theorem u_at (c : Fin 64) (v : Fin 128) : b4 n s (ix3 h c v) = s.main_v14_0 (ix4 n h c v) := by
  unfold b4 b3
  erw [Slices.slice4 _ _ n _ (start4 n _ _ _ rfl rfl rfl _)]
  pointwise

/-- Its keys' products. -/
theorem w_at (c : Fin 64) (v : Fin 128) : b9 n s (ix3 h c v) = s.main_v14_1 (ix4 n h c v) := by
  unfold b9 b8
  erw [Slices.slice4 _ _ n _ (start4 n _ _ _ rfl rfl rfl _)]
  pointwise

/-- Its scores. -/
theorem a_at (c i : Fin 64) : b14 n s (ix3 h c i) = s.main_v14_2 (ix4 n h c i) := by
  unfold b14 b13
  erw [Slices.slice4 _ _ n _ (start4 n _ _ _ rfl rfl rfl _)]
  pointwise

/-- Its decayed queries. -/
theorem q_at (c : Fin 64) (v : Fin 128) : b19 n s (ix3 h c v) = s.main_v14_3 (ix4 n h c v) := by
  unfold b19 b18
  erw [Slices.slice4 _ _ n _ (start4 n _ _ _ rfl rfl rfl _)]
  pointwise

/-- Its decayed keys. -/
theorem k_at (c : Fin 64) (v : Fin 128) : b24 n s (ix3 h c v) = s.main_v14_4 (ix4 n h c v) := by
  unfold b24 b23
  erw [Slices.slice4 _ _ n _ (start4 n _ _ _ rfl rfl rfl _)]
  pointwise

/-- Its last decay. -/
theorem d_at (v : Fin 128) : b28 n s (ix2 h v) = s.main_v14_5 (ix3 n h v) := by
  unfold b28 b27
  erw [Slices.slice3 _ _ n _ (start3 n _ _ rfl rfl _)]
  pointwise

/-- Its gate's argument. -/
theorem z_at (c : Fin 64) (v : Fin 128) : b33 n s (ix3 h c v) = s.main_v14_6 (ix4 n h c v) := by
  unfold b33 b32
  erw [Slices.slice4 _ _ n _ (start4 n _ _ _ rfl rfl rfl _)]
  pointwise

/-- The trip's written values. -/
def vn : Fin 64 → Fin 128 → EReal :=
  Spec.vNew (fun c v => s.main_v14_0 (ix4 n h c v)) (fun c k => s.main_v14_1 (ix4 n h c k)) (fun k v => s.main_v14_9 (ix3 h k v))

/-- The trip's output before its norm. -/
def o : Fin 64 → Fin 128 → EReal :=
  Spec.out (fun c k => s.main_v14_3 (ix4 n h c k)) (fun c i => s.main_v14_2 (ix4 n h c i)) (fun k v => s.main_v14_9 (ix3 h k v)) (vn n s h)

/-- Its written values. -/
theorem vn_at (c : Fin 64) (v : Fin 128) : b35 n s (ix3 h c v) = vn n s h c v := by
  unfold b35 b34
  pointwise
  rw [u_at]
  simp only [w_at]
  rfl

/-- Its output before its norm. -/
theorem o_at (c : Fin 64) (v : Fin 128) : b38 n s (ix3 h c v) = o n s h c v := by
  unfold b38 b37 b36
  pointwise
  simp only [q_at, a_at, vn_at]
  rfl

/-- The state the trip hands the next one. -/
theorem state_at (k v : Fin 128) : (step n s).main_v14_9 (ix3 h k v)
    = Spec.next (fun c k => s.main_v14_4 (ix4 n h c k)) (fun v => s.main_v14_5 (ix3 n h v)) (fun k v => s.main_v14_9 (ix3 h k v))
        (vn n s h) k v := by
  rw [step_main_v14_9]
  unfold b43 b42 b41 b40 b39
  pointwise
  simp only [k_at, d_at, vn_at]
  rfl

/-- Its gated output. -/
theorem gated_at (c : Fin 64) (v : Fin 128) : b69 n s (ix3 h c v)
    = Spec.gated (o n s h) (fun c v => s.main_v14_6 (ix4 n h c v)) (fun v => s.main_v14_7 (ix2 0 v)) c v := by
  unfold b69 b68 b67 b66 b65 b64 b63 b62 b61 b60 b59 b58 b57 b56 b55 b54 b53 b52 b51 b50 b49 b48 b47 b46 b45 b44
  pointwise
  simp only [o_at, z_at]
  rfl

/-- The stacked outputs after the trip: its own at place `n`, the others as they were. -/
theorem outs_at (m : Fin 32) (c : Fin 64) (v : Fin 128) : (step n s).main_v14_10 (ix4 m h c v)
    = if m = n then Spec.gated (o n s h) (fun c v => s.main_v14_6 (ix4 n h c v)) (fun v => s.main_v14_7 (ix2 0 v)) c v
      else s.main_v14_10 (ix4 m h c v) := by
  rw [step_main_v14_10]
  unfold b74
  erw [Slices.store4 _ _ _ n m _ (start4 n _ _ _ rfl rfl rfl _)]
  unfold b70
  pointwise
  rw [gated_at]

/-- The stacked states after the trip: the state the trip started from at place `n`, the others as they were. -/
theorem states_at (m : Fin 32) (k v : Fin 128) : (step n s).main_v14_11 (ix4 m h k v)
    = if m = n then s.main_v14_9 (ix3 h k v) else s.main_v14_11 (ix4 m h k v) := by
  rw [step_main_v14_11]
  unfold b79
  erw [Slices.store4 _ _ _ n m _ (start4 n _ _ _ rfl rfl rfl _)]
  unfold b75
  pointwise

end Cert.Proof.FwdRef

end
-- ==== Proof.FwdRefRun.lean ====
/-
  The forward scan's reference: its run leaves the state of `step` iterated 32 times from `init`.
-/
module

public import proofs.«01_k».proof.Proof.Gen.Reference2Ideal.Run
public import proofs.«01_k».proof.Proof.Gen.Reference2Ideal.Step

@[expose] public section

set_option maxRecDepth 65536

noncomputable section

open Idealize.ShloMosaic Idealize.ShloMosaic.TcCoe Idealize.SL.Sem Idealize.ShloMosaic.StableHlo
open Cert.Reference2Ideal Cert.Reference2Ideal.Gen Cert.Reference2Ideal.Value
open Cert.Reference2Ideal.Step (State step init)

namespace Cert.Proof.FwdRefRun

variable {F : FTy → Type} [FloatOps F]

/-- The loop's state, read off the buffers. -/
def held (V : Valuation τ sig (Elt F)) : State F where
  main_v14_0 := V (Proc.devRef .tc main_v14_0)
  main_v14_1 := V (Proc.devRef .tc main_v14_1)
  main_v14_2 := V (Proc.devRef .tc main_v14_2)
  main_v14_3 := V (Proc.devRef .tc main_v14_3)
  main_v14_4 := V (Proc.devRef .tc main_v14_4)
  main_v14_5 := V (Proc.devRef .tc main_v14_5)
  main_v14_6 := V (Proc.devRef .tc main_v14_6)
  main_v14_7 := V (Proc.devRef .tc main_v14_7)
  main_v14_9 := V (Proc.devRef .tc main_v14_9)
  main_v14_10 := V (Proc.devRef .tc main_v14_10)
  main_v14_11 := V (Proc.devRef .tc main_v14_11)

/-- One trip over the buffers is one `step` of the state. -/
theorem held_STEP (V : Valuation τ sig (Elt F)) (j : ℕ)
    (hn : V (Proc.devRef .tc main_v14_8) = constantI S_ 32 (BitVec.ofNat 32 j)) :
    held (STEP V) = step j (held V) := by
  unfold held
  rw [STEP_main_v14_0, STEP_main_v14_1, STEP_main_v14_2, STEP_main_v14_3, STEP_main_v14_4, STEP_main_v14_5, STEP_main_v14_6,
    STEP_main_v14_7, STEP_main_v14_9, STEP_main_v14_10, STEP_main_v14_11]
  unfold step_main_v14_9 step_main_v14_10 step_main_v14_11
  unfold res_main_while0b_v29 res_main_while0b_v26 res_main_while0b_v24
  simp only [hn]
  rfl

/-- One trip counts the trip number up. -/
theorem count_STEP (V : Valuation τ sig (Elt F)) (j : ℕ)
    (hn : V (Proc.devRef .tc main_v14_8) = constantI S_ 32 (BitVec.ofNat 32 j)) :
    STEP V (Proc.devRef .tc main_v14_8) = constantI S_ 32 (BitVec.ofNat 32 (j + 1)) := by
  rw [STEP_main_v14_8]
  unfold step_main_v14_8
  rw [hn]
  funext i
  show BitVec.ofNat 32 j + 1#32 = BitVec.ofNat 32 (j + 1)
  simp only [BitVec.ofNat_add]

variable (m : (ℓ : Loc nD τ sig) → Buf (Elt F) ℓ) (c : Dev nD)

/-- The state the first trip starts from. -/
def start : State F :=
  init (m ((c.tc : Thread nD τ).loc main_arg4)) (m ((c.tc : Thread nD τ).loc main_arg5)) (m ((c.tc : Thread nD τ).loc main_arg7))
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg6))

/-- The state after `n` trips. -/
def iter : ℕ → State F
  | 0 => start m c
  | n + 1 => step n (iter n)

set_option maxHeartbeats 1000000 in
/-- The operations before the loop leave the first trip's state and trip number 0. -/
theorem entry : held (entryContents preI m c) = start m c
    ∧ entryContents preI m c (Proc.devRef .tc main_v14_8) = constantI S_ 32 (BitVec.ofNat 32 0) := by
  constructor
  · unfold held
    simp only [entryContents, afterL_cons, afterL_nil]
    after_reads_simp
    rfl
  · simp only [entryContents, afterL_cons, afterL_nil]
    after_reads_simp
    rfl

/-- Before the condition of trip `n` the buffers hold the state after `n` trips, and the number `n`. -/
theorem held_iter : ∀ n, held (STEP^[n] (entryContents preI m c)) = iter m c n
    ∧ (STEP^[n] (entryContents preI m c)) (Proc.devRef .tc main_v14_8) = constantI S_ 32 (BitVec.ofNat 32 n)
  | 0 => entry m c
  | n + 1 => by
    obtain ⟨e, hn⟩ := held_iter n
    rw [Function.iterate_succ_apply']
    exact ⟨(held_STEP _ n hn).trans (congrArg (step n) e), count_STEP _ n hn⟩

/-- The output result is the layout change of the state's output stack. -/
theorem out_held (V : Valuation τ sig (Elt F)) (s : State F) (e : held V = s) : out_main_v17 V = Cert.Reference2Ideal.Step.R_main_v17 s := by
  subst e
  rfl

/-- The states result is the state's states stack. -/
theorem states_held (V : Valuation τ sig (Elt F)) (s : State F) (e : held V = s) : V (Proc.devRef .tc main_v14_11) = s.main_v14_11 := by
  subst e
  rfl

/-- The run: both results read off the state after 32 trips, and every argument unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v17) = Cert.Reference2Ideal.Step.R_main_v17 (iter m c 32)
      ∧ r.2.mem ((c.tc : Thread nD τ).loc main_v14_11) = (iter m c 32).main_v14_11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c).1.trans (out_held _ _ (held_iter m c 32).1), (h c).2.1.trans (states_held _ _ (held_iter m c 32).1), (h c).2.2⟩)
    (Value.run m ρ)

end Cert.Proof.FwdRefRun

end
-- ==== Proof.Scan.lean ====
/-
  The scan over 32 chunks of 64 tokens, on the words of Spec.lean: what one chunk gets, the state before each chunk, and each chunk's
  output. No program is mentioned here.
-/
module

public import proofs.«01_k».proof.Proof.Spec

@[expose] public section

noncomputable section

namespace Cert.Proof.Spec

open Idealize.ShloMosaic

/-- What the scan reads: for each chunk and head the values, the keys' products, the decayed queries and keys, the output gate, the
scores within the chunk, the decay, and for all of them the norm's gain. -/
structure Scan where
  u : Fin 32 → Fin 4 → Fin 64 → Fin 128 → EReal
  w : Fin 32 → Fin 4 → Fin 64 → Fin 128 → EReal
  q : Fin 32 → Fin 4 → Fin 64 → Fin 128 → EReal
  k : Fin 32 → Fin 4 → Fin 64 → Fin 128 → EReal
  z : Fin 32 → Fin 4 → Fin 64 → Fin 128 → EReal
  a : Fin 32 → Fin 4 → Fin 64 → Fin 64 → EReal
  d : Fin 32 → Fin 4 → Fin 128 → EReal
  g : Fin 128 → EReal

/-- The token of place `c` in chunk `n`. -/
def row (n : Fin 32) (c : Fin 64) : Fin 2048 := ⟨64 * n.val + c.val, by have := n.isLt; have := c.isLt; omega⟩

/-- The scan's data laid out by tokens and columns. -/
def scanOf (u w q k : Fin 2048 → Fin 512 → EReal) (a : Fin 32 → Fin 4 → Fin 64 → Fin 64 → EReal) (d : Fin 32 → Fin 4 → Fin 128 → EReal)
    (z : Fin 2048 → Fin 512 → EReal) (g : Fin 128 → EReal) : Scan where
  u n h c v := u (row n c) (col h v)
  w n h c v := w (row n c) (col h v)
  q n h c v := q (row n c) (col h v)
  k n h c v := k (row n c) (col h v)
  z n h c v := z (row n c) (col h v)
  a := a
  d := d
  g := g

/-- Every token is some place of some chunk. -/
theorem row_surj (r : Fin 2048) : ∃ n c, r = row n c :=
  ⟨⟨r.val / 64, by omega⟩, ⟨r.val % 64, by omega⟩, Fin.ext (by show r.val = 64 * (r.val / 64) + r.val % 64; omega)⟩

/-- Every column is some lane of some head. -/
theorem col_surj (x : Fin 512) : ∃ h v, x = col h v :=
  ⟨⟨x.val / 128, by omega⟩, ⟨x.val % 128, by omega⟩, Fin.ext (by show x.val = 128 * (x.val / 128) + x.val % 128; omega)⟩

/-- An array by tokens and columns, of what each chunk and head has. -/
def flat (f : Fin 32 → Fin 4 → Fin 64 → Fin 128 → EReal) (r : Fin 2048) (x : Fin 512) : EReal :=
  f ⟨r.val / 64, by omega⟩ ⟨x.val / 128, by omega⟩ ⟨r.val % 64, by omega⟩ ⟨x.val % 128, by omega⟩

/-- Its entry at a chunk's token and a head's lane. -/
theorem flat_at (f : Fin 32 → Fin 4 → Fin 64 → Fin 128 → EReal) (n : Fin 32) (h : Fin 4) (c : Fin 64) (v : Fin 128) :
    flat f (row n c) (col h v) = f n h c v := by
  have e1 : (⟨(row n c).val / 64, by omega⟩ : Fin 32) = n := Fin.ext (by show (64 * n.val + c.val) / 64 = n.val; omega)
  have e2 : (⟨(row n c).val % 64, by omega⟩ : Fin 64) = c := Fin.ext (by show (64 * n.val + c.val) % 64 = c.val; omega)
  have e3 : (⟨(col h v).val / 128, by omega⟩ : Fin 4) = h := Fin.ext (by show (128 * h.val + v.val) / 128 = h.val; omega)
  have e4 : (⟨(col h v).val % 128, by omega⟩ : Fin 128) = v := Fin.ext (by show (128 * h.val + v.val) % 128 = v.val; omega)
  unfold flat
  rw [e1, e2, e3, e4]

namespace Scan

variable (D : Scan)

/-- The values that chunk `n` writes into the state `s`. -/
def vn (n : Fin 32) (h : Fin 4) (s : Fin 128 → Fin 128 → EReal) : Fin 64 → Fin 128 → EReal := vNew (D.u n h) (D.w n h) s

/-- Chunk `n`'s output before its norm, from the state `s`. -/
def o (n : Fin 32) (h : Fin 4) (s : Fin 128 → Fin 128 → EReal) : Fin 64 → Fin 128 → EReal := out (D.q n h) (D.a n h) s (D.vn n h s)

/-- The state before chunk `n`, and after the last one: zero, then chunk after chunk. -/
def state : ℕ → Fin 4 → Fin 128 → Fin 128 → EReal
  | 0 => fun _ _ _ => Ideal.ofBits FTy.f32 0x00000000#32
  | n + 1 => fun h => if hn : n < 32 then next (D.k ⟨n, hn⟩ h) (D.d ⟨n, hn⟩ h) (state n h) (D.vn ⟨n, hn⟩ h (state n h)) else state n h

/-- One chunk further. -/
theorem state_succ (n : Fin 32) (h : Fin 4) :
    D.state (n.val + 1) h = next (D.k n h) (D.d n h) (D.state n.val h) (D.vn n h (D.state n.val h)) := by
  show dite _ _ _ = _
  rw [dif_pos n.isLt]

/-- Chunk `n`'s gated output. -/
def y (n : Fin 32) (h : Fin 4) : Fin 64 → Fin 128 → EReal := gated (D.o n h (D.state n.val h)) (D.z n h) D.g

end Scan

end Cert.Proof.Spec

end
-- ==== Proof.FwdRefScan.lean ====
/-
  The forward scan's reference computes the scan of Scan.lean over its arguments.
-/
module

public import proofs.«01_k».proof.Proof.FwdRef
public import proofs.«01_k».proof.Proof.FwdRefRun
public import proofs.«01_k».proof.Proof.Scan

@[expose] public section

set_option maxRecDepth 16384

noncomputable section

open Idealize.ShloMosaic Idealize.ShloMosaic.TcCoe Idealize.ShloMosaic.Pointwise Idealize.SL.Sem
open Cert.Reference2Ideal Cert.Reference2Ideal.Gen Cert.Reference2Ideal.Step Cert.Proof.FwdRefRun Cert.Proof.Spec

namespace Cert.Proof.FwdRefScan

variable (m : (ℓ : Loc nD τ sig) → Buf (Elt Ideal) ℓ) (c : Dev nD)

/-- The arguments as the scan's data. -/
def scan : Scan := scanOf
  (fun r x => (m ((c.tc : Thread nD τ).loc main_arg0) : FVec Ideal S2048x512 .f32) (ix2 r x))
  (fun r x => (m ((c.tc : Thread nD τ).loc main_arg1) : FVec Ideal S2048x512 .f32) (ix2 r x))
  (fun r x => (m ((c.tc : Thread nD τ).loc main_arg2) : FVec Ideal S2048x512 .f32) (ix2 r x))
  (fun r x => (m ((c.tc : Thread nD τ).loc main_arg3) : FVec Ideal S2048x512 .f32) (ix2 r x))
  (fun n h i j => (m ((c.tc : Thread nD τ).loc main_arg4) : FVec Ideal S32x4x64x64 .f32) (ix4 n h i j))
  (fun n h v => (m ((c.tc : Thread nD τ).loc main_arg5) : FVec Ideal S32x4x128 .f32) (ix3 n h v))
  (fun r x => (m ((c.tc : Thread nD τ).loc main_arg6) : FVec Ideal S2048x4224 .f32) (ix2 r ⟨1536 + x.val, by have := x.isLt; omega⟩))
  (fun v => (m ((c.tc : Thread nD τ).loc main_arg7) : FVec Ideal S1x128 .f32) (ix2 0 v))

/-- What a state of the loop holds of the scan's data. -/
structure Holds (s : State Ideal) (D : Scan) : Prop where
  u : ∀ n h i v, s.main_v14_0 (ix4 n h i v) = D.u n h i v
  w : ∀ n h i v, s.main_v14_1 (ix4 n h i v) = D.w n h i v
  a : ∀ n h i j, s.main_v14_2 (ix4 n h i j) = D.a n h i j
  q : ∀ n h i v, s.main_v14_3 (ix4 n h i v) = D.q n h i v
  k : ∀ n h i v, s.main_v14_4 (ix4 n h i v) = D.k n h i v
  d : ∀ n h v, s.main_v14_5 (ix3 n h v) = D.d n h v
  z : ∀ n h i v, s.main_v14_6 (ix4 n h i v) = D.z n h i v
  g : ∀ v, s.main_v14_7 (ix2 0 v) = D.g v

/-- A layout by heads reads the token's row and the head's column. -/
theorem heads_at (A : FVec Ideal S2048x512 .f32) (n : Fin 32) (h : Fin 4) (i : Fin 64) (v : Fin 128) :
    (transpose S32x4x64x128 [0, 2, 1, 3] (shapeCast S32x64x4x128 A shapeCasts_S2048x512_S32x64x4x128)
      transposes_S32x64x4x128_S32x4x64x128_0_2_1_3 : FVec Ideal S32x4x64x128 .f32) (ix4 n h i v) = A (ix2 (row n i) (col h v)) := by
  unfold row col
  pointwise
  simp only [Nat.mul_comm]

/-- The first trip's state holds them. -/
theorem holds_start : Holds (start m c) (scan m c) where
  u n h i v := heads_at _ n h i v
  w n h i v := heads_at _ n h i v
  q n h i v := heads_at _ n h i v
  k n h i v := heads_at _ n h i v
  a _ _ _ _ := rfl
  d _ _ _ := rfl
  g _ := rfl
  z n h i v := by
    refine (heads_at (extractStridedSlice S2048x512 ![0, 1536] (m ((c.tc : Thread nD τ).loc main_arg6)) slices_S2048x4224_S2048x512_0_1536)
      n h i v).trans ?_
    pointwise
    rfl

/-- A trip leaves them. -/
theorem holds_step (n : ℕ) (s : State Ideal) (D : Scan) (H : Holds s D) : Holds (step n s) D :=
  ⟨H.u, H.w, H.a, H.q, H.k, H.d, H.z, H.g⟩

/-- Every trip's state holds them. -/
theorem holds_iter : ∀ n, Holds (iter m c n) (scan m c)
  | 0 => holds_start m c
  | n + 1 => holds_step n _ _ (holds_iter n)

/-- A trip's written values are the scan's. -/
theorem vn_eq (n : Fin 32) (s : State Ideal) (D : Scan) (H : Holds s D) (h : Fin 4) :
    FwdRef.vn n s h = D.vn n h fun k v => s.main_v14_9 (ix3 h k v) := by
  unfold FwdRef.vn Scan.vn
  simp only [H.u, H.w]

/-- A trip's output is the scan's. -/
theorem o_eq (n : Fin 32) (s : State Ideal) (D : Scan) (H : Holds s D) (h : Fin 4) :
    FwdRef.o n s h = D.o n h fun k v => s.main_v14_9 (ix3 h k v) := by
  unfold FwdRef.o Scan.o
  rw [vn_eq n s D H]
  simp only [H.q, H.a]

/-- The carried state before trip `n`. -/
theorem carried : ∀ n, n ≤ 32 → ∀ (h : Fin 4), (fun k v => (iter m c n).main_v14_9 (ix3 h k v)) = (scan m c).state n h
  | 0, _, h => by
    funext k v
    show K_main_v11 (F := Ideal) (ix3 h k v) = Ideal.ofBits FTy.f32 0x00000000#32
    unfold K_main_v11 K_main_cst
    pointwise
  | n + 1, hn, h => by
    rw [Scan.state_succ (scan m c) ⟨n, hn⟩ h]
    funext k v
    refine (FwdRef.state_at ⟨n, hn⟩ (iter m c n) h k v).trans ?_
    have H := holds_iter m c n
    rw [vn_eq _ _ _ H, ← carried n (by omega) h]
    simp only [H.k, H.d]

/-- A stack of which trip `n` sets entry `n` alone: after `N` trips its entry `n < N` is what trip `n` set. -/
theorem stack_at {β : Type} (S : ℕ → Fin 32 → β) (f : Fin 32 → β) (N : ℕ)
    (hS : ∀ (n : Fin 32) (j : Fin 32), S (n.val + 1) j = if j = n then f n else S n.val j) (hN : N ≤ 32) (j : Fin 32) (hj : j.val < N) :
    S N j = f j := by
  induction N with
  | zero => omega
  | succ N ih =>
    rw [hS ⟨N, hN⟩ j]
    split
    · rename_i e; rw [e]
    · rename_i e
      exact ih (by omega) (by have : j.val ≠ N := fun h => e (Fin.ext h); omega)

/-- The stacked states after the loop. -/
theorem states (n : Fin 32) (h : Fin 4) (k v : Fin 128) :
    (iter m c 32).main_v14_11 (ix4 n h k v) = (scan m c).state n.val h k v := by
  refine (stack_at (fun N j => (iter m c N).main_v14_11 (ix4 j h k v)) (fun n => (iter m c n.val).main_v14_9 (ix3 h k v)) 32
    (fun n j => FwdRef.states_at n _ h j k v) le_rfl n n.isLt).trans ?_
  exact congrFun (congrFun (carried m c n.val (by have := n.isLt; omega) h) k) v

/-- The stacked outputs after the loop. -/
theorem outs (n : Fin 32) (h : Fin 4) (i : Fin 64) (v : Fin 128) :
    (iter m c 32).main_v14_10 (ix4 n h i v) = (scan m c).y n h i v := by
  refine (stack_at (fun N j => (iter m c N).main_v14_10 (ix4 j h i v)) (fun n => (scan m c).y n h i v) 32
    (fun n j => ?_) le_rfl n n.isLt)
  refine (FwdRef.outs_at n _ h j i v).trans ?_
  have H := holds_iter m c n.val
  rw [o_eq _ _ _ H, carried m c n.val (by have := n.isLt; omega) h]
  simp only [H.z, H.g]
  rfl

/-- The output result. -/
theorem out_at (n : Fin 32) (h : Fin 4) (i : Fin 64) (v : Fin 128) :
    R_main_v17 (iter m c 32) (ix2 (row n i) (col h v)) = (scan m c).y n h i v := by
  rw [← outs]
  unfold R_main_v17 row col
  generalize (iter m c 32).main_v14_10 = S
  pointwise

end Cert.Proof.FwdRefScan

end
-- ==== Proof.FwdKernelScan.lean ====
/-
  The forward scan's kernel computes the scan of Scan.lean over its arguments; with the reference's, the two agree.
-/
module

public import proofs.«01_k».proof.Proof.FwdKernel
public import proofs.«01_k».proof.Proof.FwdRefScan
public import proofs.«01_k».proof.Defs

@[expose] public section

set_option maxRecDepth 16384

noncomputable section

open Idealize.ShloMosaic Idealize.ShloMosaic.TcCoe Idealize.ShloMosaic.Pointwise Idealize.SL.Sem
open Cert.Kernel2Ideal Cert.Kernel2Ideal.Gen Cert.Kernel2Ideal.Value Cert.Proof.Spec

namespace Cert.Proof.FwdKernelScan

variable (m : (ℓ : Loc nD τ sig) → Buf (Elt Ideal) ℓ) (c : Dev nD)

/-- The arguments as the scan's data. -/
def scan : Scan := scanOf
  (fun r x => (m ((c : Thread nD τ).loc main_arg0) : FVec Ideal S2048x512 .f32) (ix2 r x))
  (fun r x => (m ((c : Thread nD τ).loc main_arg1) : FVec Ideal S2048x512 .f32) (ix2 r x))
  (fun r x => (m ((c : Thread nD τ).loc main_arg2) : FVec Ideal S2048x512 .f32) (ix2 r x))
  (fun r x => (m ((c : Thread nD τ).loc main_arg3) : FVec Ideal S2048x512 .f32) (ix2 r x))
  (fun n h i j => (m ((c : Thread nD τ).loc main_arg4) : FVec Ideal S32x4x64x64 .f32) (ix4 n h i j))
  (fun n h v => (m ((c : Thread nD τ).loc main_arg5) : FVec Ideal S32x4x128 .f32) (ix3 n h v))
  (fun r x => (m ((c : Thread nD τ).loc main_arg6) : FVec Ideal S2048x4224 .f32) (ix2 r ⟨1536 + x.val, by have := x.isLt; omega⟩))
  (fun v => (m ((c : Thread nD τ).loc main_arg7) : FVec Ideal S1x128 .f32) (ix2 0 v))

/-- Where each block of the grid lies. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0, 0, 0] ∧ win0_5.index t = ![t.val, 0, 0] ∧ win0_6.index t = ![t.val, 3]
    ∧ win0_7.index t = ![0, 0] ∧ win0_8.index t = ![t.val, 0] ∧ win0_9.index t = ![t.val, 0, 0, 0] :=
  (by decide +kernel : ∀ t : Fin grid0.N, _)

/-- A grid point's chunk. -/
def ch (t : Fin cfg0.N) : Fin 32 := ⟨t.val, t.isLt⟩

variable (t : Fin cfg0.N) (h : Fin 4)

/-- Block 0 is the chunk's values. -/
theorem u_at (i : Fin 64) (v : Fin 128) : iblk m c 0 t (ix2 i (col h v)) = (scan m c).u (ch t) h i v := by
  unfold scan scanOf row col ch
  blk_point [iblk, V, idx t]

/-- Block 1 is the chunk's products of the keys. -/
theorem w_at (i : Fin 64) (v : Fin 128) : iblk m c 1 t (ix2 i (col h v)) = (scan m c).w (ch t) h i v := by
  unfold scan scanOf row col ch
  blk_point [iblk, V, idx t]

/-- Block 2 is the chunk's decayed queries. -/
theorem q_at (i : Fin 64) (v : Fin 128) : iblk m c 2 t (ix2 i (col h v)) = (scan m c).q (ch t) h i v := by
  unfold scan scanOf row col ch
  blk_point [iblk, V, idx t]

/-- Block 3 is the chunk's decayed keys. -/
theorem k_at (i : Fin 64) (v : Fin 128) : iblk m c 3 t (ix2 i (col h v)) = (scan m c).k (ch t) h i v := by
  unfold scan scanOf row col ch
  blk_point [iblk, V, idx t]

/-- Block 4 is the chunk's scores. -/
theorem a_at (i j : Fin 64) : iblk m c 4 t (ix4 0 h i j) = (scan m c).a (ch t) h i j := by
  unfold scan scanOf ch
  blk_point [iblk, V, idx t]

/-- Block 5 is the chunk's last decays. -/
theorem d_at (v : Fin 128) : iblk m c 5 t (ix3 0 h v) = (scan m c).d (ch t) h v := by
  unfold scan scanOf ch
  blk_point [iblk, V, idx t]

/-- Block 6 is the chunk's gate argument. -/
theorem z_at (i : Fin 64) (v : Fin 128) : X0_6 m c t (ix2 i (col h v)) = (scan m c).z (ch t) h i v := by
  unfold scan scanOf row col ch X0_6 Pipeline.Window.fill
  rw [dif_pos (moved0_6 t _)]
  blk_point [iblk, V, idx t]

/-- Block 7 is the norm's gain. -/
theorem g_at (v : Fin 128) : iblk m c 7 t (ix2 0 v) = (scan m c).g v := by
  unfold scan scanOf
  blk_point [iblk, V, idx t]

/-- A grid point that starts from the scan's state leaves the scan's next one. -/
theorem leaves (H : (fun k v => FwdKernel.carried m c t (ix3 h k v)) = (scan m c).state t.val h) (k v : Fin 128) :
    (outsAt0 m c t.val t.isLt).2.2 (ix3 h k v) = (scan m c).state (t.val + 1) h k v := by
  refine (FwdKernel.state_at m c t h k v).trans (Eq.trans ?_ (congrFun (congrFun ((scan m c).state_succ (ch t) h) k) v).symm)
  unfold FwdKernel.vn Scan.vn
  rw [H]
  simp only [u_at, w_at, k_at, d_at]
  rfl

/-- The carried state before each grid point. -/
theorem carried : ∀ (n : ℕ) (t : Fin cfg0.N), t.val = n → (fun k v => FwdKernel.carried m c t (ix3 h k v)) = (scan m c).state t.val h
  | 0, t, e => by
    funext k v
    unfold FwdKernel.carried
    rw [if_pos (by rw [e]), e]
    show _ = Ideal.ofBits FTy.f32 0x00000000#32
    pointwise [k0_pay2]
  | n + 1, t, e => by
    have ht : t.val < 32 := t.isLt
    funext k v
    unfold FwdKernel.carried
    rw [if_neg (by omega)]
    have e' : (⟨t.val - 1, by omega⟩ : Fin cfg0.N).val = n := by show t.val - 1 = n; omega
    refine (leaves m c ⟨t.val - 1, by omega⟩ h (carried n _ e') k v).trans ?_
    rw [e', e]

/-- The output block a grid point writes. -/
theorem out_at (i : Fin 64) (v : Fin 128) : (outsAt0 m c t.val t.isLt).1 (ix2 i (col h v)) = (scan m c).y (ch t) h i v := by
  rw [FwdKernel.out_at]
  unfold FwdKernel.o FwdKernel.vn Scan.y Scan.o Scan.vn
  rw [carried m c h t.val t rfl]
  simp only [u_at, w_at, q_at, a_at, z_at, g_at]
  rfl

/-- The output array. -/
def outArr (D : Scan) : FVec Ideal S2048x512 .bf16 := fun i => flat D.y (i 0) (i 1)

/-- The array of the states before each chunk. -/
def statesArr (D : Scan) : FVec Ideal S32x4x128x128 .f32 := fun i => D.state (i 0).val (i 1) (i 2) (i 3)

/-- The kernel's output. -/
theorem final8 : (dats m 0 c).arrAt 8 (cfgs 0).N = outArr (scan m c) := by
  refine (dats m 0 c).arrAt_eq_of_covers 8 _ (by decide +kernel) fun t _ y => ?_
  blk_simp
  rw [after0_8]
  obtain ⟨h, v, hv⟩ := col_surj (y 1)
  obtain ⟨i, hi⟩ : ∃ i : Fin 64, i = y 0 := ⟨y 0, rfl⟩
  have ey : y = ix2 i (col h v) := by rw [hi, ← hv]; blk_ext []
  have e : ((cfg0.win 8).blk t).view.emb y = ix2 (row (ch t) i) (col h v) := by rw [ey]; unfold row ch; blk_ext [idx t]
  rw [e]
  refine (congrArg _ ey).trans ((out_at m c t h i v).trans (flat_at _ _ _ _ _).symm)

/-- The kernel's states. -/
theorem final9 : (dats m 0 c).arrAt 9 (cfgs 0).N = statesArr (scan m c) := by
  refine (dats m 0 c).arrAt_eq_of_covers 9 _ (by decide +kernel) fun t _ y => ?_
  blk_simp
  rw [after0_9]
  have ey : y = ix4 0 (y 1) (y 2) (y 3) := by blk_ext []
  have e : ((cfg0.win 9).blk t).view.emb y = ix4 (ch t) (y 1) (y 2) (y 3) := by unfold ch; blk_ext [idx t]
  rw [e]
  refine (congrArg _ ey).trans ((FwdKernel.states_at m c t (y 1) (y 2) (y 3)).trans ?_)
  exact congrFun (congrFun (carried m c (y 1) t.val t rfl) (y 2)) (y 3)

/-- The scan's kernel and the scan's reference leave the same outputs and the same states. -/
theorem algebraic : algebraic_Kernel2Ideal_Reference2Ideal := by
  intro m g m' g' _ hagree
  refine ⟨fun c => outArr (scan m c), fun c => statesArr (scan m c),
    (θ_run _ _ _).mono (fun r h c => ?_) (run_blocks m g), (θ_run _ _ _).mono (fun r h c => ?_) (FwdRefRun.run m' g')⟩
  · obtain ⟨h8, h9, h⟩ := h c
    exact ⟨h8.trans (final8 m c), h9.trans (final9 m c), h⟩
  · obtain ⟨h8, h9, h⟩ := h c
    obtain ⟨e0, e1, e2, e3, e4, e5, e6, e7⟩ := hagree c
    have es : scan m c = FwdRefScan.scan m' c := by
      unfold scan FwdRefScan.scan
      rw [← e0, ← e1, ← e2, ← e3, ← e4, ← e5, ← e6, ← e7]
    beta_reduce
    rw [es]
    refine ⟨h8.trans ?_, h9.trans ?_, h⟩
    · funext x
      obtain ⟨n, i, hr⟩ := row_surj (x 0)
      obtain ⟨h, v, hx⟩ := col_surj (x 1)
      obtain rfl : x = ix2 (row n i) (col h v) := by rw [← hr, ← hx]; blk_ext []
      exact (FwdRefScan.out_at m' c n h i v).trans (flat_at _ _ _ _ _).symm
    · funext x
      have ex : x = ix4 (x 0) (x 1) (x 2) (x 3) := by blk_ext []
      rw [ex]
      exact FwdRefScan.states m' c (x 0) (x 1) (x 2) (x 3)

end Cert.Proof.FwdKernelScan

end
-- ==== Proof.BwdScan.lean ====
/-
  The scan's gradient, one head and one chunk at a time, on the words of Spec.lean and Scan.lean: from the gradient of a chunk's gated
  output and of the state after it to the gradients of all that the chunk read, and back through the 32 chunks. No program is mentioned
  here.
-/
module

public import proofs.«01_k».proof.Proof.Scan

@[expose] public section

noncomputable section

namespace Cert.Proof.Spec

open Idealize.ShloMosaic
open scoped BigOperators

/-- A row's mean square plus the norm's floor. -/
def ms (o : Fin 64 → Fin 128 → EReal) (c : Fin 64) : EReal :=
  Ideal.div (∑ x, o c x * o c x) (Ideal.ofBits FTy.f32 0x43000000#32) + Ideal.ofBits FTy.f32 0x358637BD#32

/-- The gradient of the normed output, through its gate. -/
def dNormed (z e : Fin 64 → Fin 128 → EReal) (c : Fin 64) (v : Fin 128) : EReal := e c v * (z c v * sig (z c v))

/-- The gradient of the gate's argument. -/
def dGate (o z : Fin 64 → Fin 128 → EReal) (g : Fin 128 → EReal) (e : Fin 64 → Fin 128 → EReal) (c : Fin 64) (v : Fin 128) : EReal :=
  o c v * rinv o c * g v * e c v * sig (z c v) + z c v * (o c v * rinv o c * g v * e c v) * (sig (z c v) * (1 - sig (z c v)))

/-- What one row gives the norm's gain. -/
def gainTerm (o z e : Fin 64 → Fin 128 → EReal) (c : Fin 64) (v : Fin 128) : EReal := o c v * rinv o c * dNormed z e c v

/-- The gradient of a row's mean square, of the gradient `f` of the row before its gain. -/
def dMean (o f : Fin 64 → Fin 128 → EReal) (c : Fin 64) : EReal :=
  Ideal.div ((∑ v, o c v * f c v) * (Ideal.ofBits FTy.f32 0xBF000000#32 * Ideal.div (rinv o c) (ms o c)))
    (Ideal.ofBits FTy.f32 0x43000000#32)

/-- The gradient of the output before its norm. -/
def dOut (o z : Fin 64 → Fin 128 → EReal) (g : Fin 128 → EReal) (e : Fin 64 → Fin 128 → EReal) (c : Fin 64) (v : Fin 128) : EReal :=
  dNormed z e c v * g v * rinv o c + o c v * dMean o (fun c v => dNormed z e c v * g v) c
    + dMean o (fun c v => dNormed z e c v * g v) c * o c v

/-- The gradient of the written values. -/
def dVal (ds : Fin 128 → Fin 128 → EReal) (k : Fin 64 → Fin 128 → EReal) (dO : Fin 64 → Fin 128 → EReal) (a : Fin 64 → Fin 64 → EReal)
    (c : Fin 64) (v : Fin 128) : EReal :=
  (∑ x, ds x v * k c x) + ∑ i, dO i v * a i c

/-- The gradient of the decayed keys. -/
def dKey (ds : Fin 128 → Fin 128 → EReal) (vn : Fin 64 → Fin 128 → EReal) (c : Fin 64) (k : Fin 128) : EReal := ∑ v, ds k v * vn c v

/-- The gradient of the decay. -/
def dDecay (ds s : Fin 128 → Fin 128 → EReal) (v : Fin 128) : EReal := ∑ k, s k v * ds k v

/-- The gradient of the scores. -/
def dScore (dO vn : Fin 64 → Fin 128 → EReal) (c i : Fin 64) : EReal := ∑ v, dO c v * vn i v

/-- The gradient of the decayed queries. -/
def dQuery (dO : Fin 64 → Fin 128 → EReal) (s : Fin 128 → Fin 128 → EReal) (c : Fin 64) (k : Fin 128) : EReal := ∑ v, dO c v * s k v

/-- The gradient of the keys' products, of the gradient `du` of the written values. -/
def dProd (du : Fin 64 → Fin 128 → EReal) (s : Fin 128 → Fin 128 → EReal) (c : Fin 64) (k : Fin 128) : EReal := ∑ v, -du c v * s k v

/-- The gradient of the state before the chunk. -/
def dState (ds : Fin 128 → Fin 128 → EReal) (d : Fin 128 → EReal) (dO q du w : Fin 64 → Fin 128 → EReal) (k v : Fin 128) : EReal :=
  ds k v * d v + (∑ c, dO c v * q c k) + ∑ c, -du c v * w c k

/-- The written values' gradient with the factors in the other order. -/
theorem dVal_swap (ds : Fin 128 → Fin 128 → EReal) (k dO : Fin 64 → Fin 128 → EReal) (a : Fin 64 → Fin 64 → EReal) (c : Fin 64)
    (v : Fin 128) : (∑ x, k c x * ds x v) + ∑ i, a i c * dO i v = dVal ds k dO a c v := by
  unfold dVal
  simp only [mul_comm (k c _), mul_comm (a _ c)]

/-- The decayed keys' gradient with the factors in the other order. -/
theorem dKey_swap (ds : Fin 128 → Fin 128 → EReal) (vn : Fin 64 → Fin 128 → EReal) (c : Fin 64) (k : Fin 128) :
    (∑ v, vn c v * ds k v) = dKey ds vn c k := by
  unfold dKey
  simp only [mul_comm (vn c _)]

/-- The gradient of the keys' products, of the written values' gradient with its factors in the other order. -/
theorem dProd_swap (ds : Fin 128 → Fin 128 → EReal) (k dO : Fin 64 → Fin 128 → EReal) (a : Fin 64 → Fin 64 → EReal)
    (s : Fin 128 → Fin 128 → EReal) (c : Fin 64) (x : Fin 128) :
    (∑ v, (0 - ((∑ x, k c x * ds x v) + ∑ i, a i c * dO i v)) * s x v) = dProd (dVal ds k dO a) s c x := by
  unfold dProd
  simp only [dVal_swap, zero_sub]

/-- The state's gradient with the factors of its products in the other order. -/
theorem dState_swap (ds : Fin 128 → Fin 128 → EReal) (d : Fin 128 → EReal) (k dO q w : Fin 64 → Fin 128 → EReal)
    (a : Fin 64 → Fin 64 → EReal) (x v : Fin 128) :
    ds x v * d v + (∑ c, q c x * dO c v) + (∑ c, w c x * (0 - ((∑ x, k c x * ds x v) + ∑ i, a i c * dO i v)))
      = dState ds d dO q (dVal ds k dO a) w x v := by
  unfold dState
  simp only [dVal_swap, zero_sub, mul_comm (q _ x), mul_comm (w _ x)]

/-- What the scan's gradient reads: the scan's data, the state before each chunk, and the gradient of each chunk's gated output. -/
structure Back extends Scan where
  s : Fin 32 → Fin 4 → Fin 128 → Fin 128 → EReal
  e : Fin 32 → Fin 4 → Fin 64 → Fin 128 → EReal

/-- The column of head `h`'s lane `v`, head by head. -/
def lane : Fin 4 → Fin 128 → Fin 512
  | 0, v => ⟨v.val, by omega⟩
  | 1, v => ⟨128 + v.val, by omega⟩
  | 2, v => ⟨256 + v.val, by omega⟩
  | 3, v => ⟨384 + v.val, by omega⟩

/-- It is that column. -/
theorem lane_eq (h : Fin 4) (v : Fin 128) : lane h v = col h v := by
  fin_cases h
  · exact (col_zero v).symm
  all_goals rfl

/-- The chunk that is treated after `j` others, the last one first. -/
def rev (j : ℕ) : Fin 32 := ⟨31 - j, by omega⟩

/-- It is one of the others' places. -/
theorem rev_rev (n : Fin 32) : rev (rev n.val).val = n := Fin.ext (by have := n.isLt; show 31 - (31 - n.val) = n.val; omega)

/-- The data of the scan and the gradient that comes back, laid out by tokens and columns. -/
def backOf (D : Scan) (s : Fin 32 → Fin 4 → Fin 128 → Fin 128 → EReal) (e : Fin 2048 → Fin 512 → EReal) : Back where
  toScan := D
  s := s
  e n h c v := e (row n c) (col h v)

namespace Back

/-- Two of them are equal when each field is. -/
theorem ext_fields {D D' : Back} (hu : D.u = D'.u) (hw : D.w = D'.w) (hq : D.q = D'.q) (hk : D.k = D'.k) (hz : D.z = D'.z)
    (ha : D.a = D'.a) (hd : D.d = D'.d) (hg : D.g = D'.g) (hs : D.s = D'.s) (he : D.e = D'.e) : D = D' := by
  rcases D with ⟨⟨_, _, _, _, _, _, _, _⟩, _, _⟩
  rcases D' with ⟨⟨_, _, _, _, _, _, _, _⟩, _, _⟩
  simp only [Back.mk.injEq, Scan.mk.injEq]
  exact ⟨⟨hu, hw, hq, hk, hz, ha, hd, hg⟩, hs, he⟩

variable (D : Back)

/-- Chunk `n`'s data, at every number. -/
def pick (n : Fin 32) : Back where
  u _ := D.u n
  w _ := D.w n
  q _ := D.q n
  k _ := D.k n
  z _ := D.z n
  a _ := D.a n
  d _ := D.d n
  g := D.g
  s _ := D.s n
  e _ := D.e n

/-- Chunk `n`'s written values. -/
def vals (n : Fin 32) (h : Fin 4) : Fin 64 → Fin 128 → EReal := D.vn n h (D.s n h)

/-- Chunk `n`'s output before its norm. -/
def outs (n : Fin 32) (h : Fin 4) : Fin 64 → Fin 128 → EReal := D.o n h (D.s n h)

/-- The gradient of chunk `n`'s output before its norm. -/
def dO (n : Fin 32) (h : Fin 4) : Fin 64 → Fin 128 → EReal := dOut (D.outs n h) (D.z n h) D.g (D.e n h)

/-- The gradient of chunk `n`'s written values, of the gradient `ds` of the state after it. -/
def du (n : Fin 32) (h : Fin 4) (ds : Fin 128 → Fin 128 → EReal) : Fin 64 → Fin 128 → EReal := dVal ds (D.k n h) (D.dO n h) (D.a n h)

/-- The gradient of the state after the chunks that are still to be treated, when `j` are done. -/
def dstate : ℕ → Fin 4 → Fin 128 → Fin 128 → EReal
  | 0 => fun _ _ _ => Ideal.ofBits FTy.f32 0x00000000#32
  | j + 1 => fun h => dState (dstate j h) (D.d (rev j) h) (D.dO (rev j) h) (D.q (rev j) h) (D.du (rev j) h (dstate j h)) (D.w (rev j) h)

/-- What chunk `n` gives the gain. -/
def gain (n : Fin 32) (v : Fin 128) : EReal := ∑ h, ∑ c, gainTerm (D.outs n h) (D.z n h) (D.e n h) c v

/-- The same, head by head from the last one. -/
theorem gain_swap (n : Fin 32) (v : Fin 128) : (∑ c, gainTerm (D.outs n 3) (D.z n 3) (D.e n 3) c v)
    + (∑ c, gainTerm (D.outs n 2) (D.z n 2) (D.e n 2) c v) + (∑ c, gainTerm (D.outs n 1) (D.z n 1) (D.e n 1) c v)
    + (∑ c, gainTerm (D.outs n 0) (D.z n 0) (D.e n 0) c v) = D.gain n v := by
  unfold gain
  rw [Fin.sum_univ_four]
  ac_rfl

/-- The gain's gradient, when `j` chunks are done. -/
def dgain : ℕ → Fin 128 → EReal
  | 0 => fun _ => Ideal.ofBits FTy.f32 0x00000000#32
  | j + 1 => fun v => dgain j v + D.gain (rev j) v

/-- The gradient of the state after chunk `n`. -/
def ds (n : Fin 32) : Fin 4 → Fin 128 → Fin 128 → EReal := D.dstate (31 - n.val)

/-- After `j` chunks it is the one that the next chunk starts from. -/
theorem ds_rev (j : Fin 32) : D.ds (rev j.val) = D.dstate j.val := by
  have e : 31 - (rev j.val).val = j.val := by have := j.isLt; show 31 - (31 - j.val) = j.val; omega
  unfold ds
  rw [e]

/-- The gradient of chunk `n`'s values. -/
def gu (n : Fin 32) (h : Fin 4) : Fin 64 → Fin 128 → EReal := D.du n h (D.ds n h)

/-- The gradient of its keys' products with the state. -/
def gw (n : Fin 32) (h : Fin 4) : Fin 64 → Fin 128 → EReal := dProd (D.gu n h) (D.s n h)

/-- The gradient of its decayed queries. -/
def gq (n : Fin 32) (h : Fin 4) : Fin 64 → Fin 128 → EReal := dQuery (D.dO n h) (D.s n h)

/-- The gradient of its decayed keys. -/
def gk (n : Fin 32) (h : Fin 4) : Fin 64 → Fin 128 → EReal := dKey (D.ds n h) (D.vals n h)

/-- The gradient of its scores. -/
def ga (n : Fin 32) (h : Fin 4) : Fin 64 → Fin 64 → EReal := dScore (D.dO n h) (D.vals n h)

/-- The gradient of its last decay. -/
def gd (n : Fin 32) (h : Fin 4) : Fin 128 → EReal := dDecay (D.ds n h) (D.s n h)

/-- The gradient of its gate's argument. -/
def gz (n : Fin 32) (h : Fin 4) : Fin 64 → Fin 128 → EReal := dGate (D.outs n h) (D.z n h) D.g (D.e n h)

end Back

end Cert.Proof.Spec

end
-- ==== Proof.BwdKernel.lean ====
/-
  The backward scan's kernel: what one grid point leaves in the carried gradient and in its output blocks, in the words of BwdScan.lean.
-/
module

public import proofs.«01_k».proof.Proof.Gen.KernelIdeal.Value
public import proofs.«01_k».proof.Proof.BwdScan
public import proofs.«01_k».proof.Proof.Prefix

@[expose] public section

set_option maxRecDepth 16384

noncomputable section

open Idealize.ShloMosaic Idealize.ShloMosaic.Pointwise Idealize.SL.Sem
open Cert.KernelIdeal Cert.KernelIdeal.Gen Cert.Proof.Spec

namespace Cert.Proof.BwdKernel

variable (m : (ℓ : Loc nD τ sig) → Buf (Elt Ideal) ℓ) (c : Dev nD) (t : Fin cfg0.N) (h : Fin 4)

/-- The blocks that a grid point reads, as one chunk's data (the chunk's number is not looked at). -/
def data : Back where
  u _ h i v := iblk m c 0 t (ix2 i (lane h v))
  w _ h i v := iblk m c 1 t (ix2 i (lane h v))
  q _ h i v := iblk m c 2 t (ix2 i (lane h v))
  k _ h i v := iblk m c 3 t (ix2 i (lane h v))
  a _ h i j := iblk m c 4 t (ix4 0 h i j)
  d _ h v := iblk m c 5 t (ix3 0 h v)
  z _ h i v := X0_6 m c t (ix2 i (lane h v))
  g v := iblk m c 7 t (ix2 0 v)
  s _ h k v := iblk m c 8 t (ix4 0 h k v)
  e _ h i v := iblk m c 9 t (ix2 i (lane h v))

/-- The gradient a grid point starts from: zero at the first one, else what the point before left. -/
def carried : Vec Ideal S4x128x128 .f32 :=
  if t.val % 32 = 0 then k0_pay5 (F := Ideal)
  else (outsAt0 m c (t.val - 1) (Nat.lt_of_le_of_lt (Nat.sub_le _ _) t.isLt)).2.2.2.2.2.2.2.2

/-- It, of head `h`. -/
def ds (k v : Fin 128) : EReal := carried m c t (ix3 h k v)

/-- The block of the written values' gradient. -/
theorem du_at (i : Fin 64) (v : Fin 128) : (outsAt0 m c t.val t.isLt).1 (ix2 i (col h v))
    = (data m c t).du 0 h (ds m c t h) i v := by
  unfold ds carried
  split
  all_goals rename_i h0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
  on_goal 2 =>
    simp only [read_unread_whole]
    generalize (outsAt0 m c (t.val - 1) _).2.2.2.2.2.2.2.2 = S
  on_goal 1 =>
    generalize k0_pay5 (F := Ideal) = S
  all_goals
    unfold data
    generalize iblk m c 0 t = X0, iblk m c 1 t = X1, iblk m c 2 t = X2, iblk m c 3 t = X3, iblk m c 4 t = X4, iblk m c 5 t = X5,
      iblk m c 7 t = X7, X0_6 m c t = X6, iblk m c 8 t = X8, iblk m c 9 t = X9
    canon_tiles x hx
    all_goals
      open_payloads
      obtain ⟨h, hh⟩ := h
      have e0 : 128 * h + v.val = _ := hx1
      have hv := v.isLt
      interval_cases h <;> first | (exfalso; omega) | skip
      obtain rfl : x = ix2 i v := funext fun a => Fin.ext (by fin_cases a; exacts [hx0.symm, (by show (x 1).val = v.val; omega)])
      pointwise
      simp only [Fin.sum_univ_one]
      refine Eq.trans ?_ (dVal_swap _ _ _ _ _ _)
      rfl

/-- The block of the gradient of the keys times the state. -/
theorem dw_at (i : Fin 64) (v : Fin 128) : (outsAt0 m c t.val t.isLt).2.1 (ix2 i (col h v))
    = dProd ((data m c t).du 0 h (ds m c t h)) ((data m c t).s 0 h) i v := by
  unfold ds carried
  split
  all_goals rename_i h0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
  on_goal 2 =>
    simp only [read_unread_whole]
    generalize (outsAt0 m c (t.val - 1) _).2.2.2.2.2.2.2.2 = S
  on_goal 1 =>
    generalize k0_pay5 (F := Ideal) = S
  all_goals
    unfold data
    generalize iblk m c 0 t = X0, iblk m c 1 t = X1, iblk m c 2 t = X2, iblk m c 3 t = X3, iblk m c 4 t = X4, iblk m c 5 t = X5,
      iblk m c 7 t = X7, X0_6 m c t = X6, iblk m c 8 t = X8, iblk m c 9 t = X9
    canon_tiles x hx
    all_goals
      open_payloads
      obtain ⟨h, hh⟩ := h
      have e0 : 128 * h + v.val = _ := hx1
      have hv := v.isLt
      interval_cases h <;> first | (exfalso; omega) | skip
      obtain rfl : x = ix2 i v := funext fun a => Fin.ext (by fin_cases a; exacts [hx0.symm, (by show (x 1).val = v.val; omega)])
      pointwise
      simp only [Fin.sum_univ_one]
      refine Eq.trans ?_ (dProd_swap _ _ _ _ _ _ _)
      rfl

/-- The block of the decayed queries' gradient. -/
theorem dq_at (i : Fin 64) (v : Fin 128) : (outsAt0 m c t.val t.isLt).2.2.1 (ix2 i (col h v))
    = dQuery ((data m c t).dO 0 h) ((data m c t).s 0 h) i v := by
  by_cases h0 : t.val % 32 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
  all_goals
    unfold data
    generalize iblk m c 0 t = X0, iblk m c 1 t = X1, iblk m c 2 t = X2, iblk m c 3 t = X3, iblk m c 4 t = X4, iblk m c 5 t = X5,
      iblk m c 7 t = X7, X0_6 m c t = X6, iblk m c 8 t = X8, iblk m c 9 t = X9
    canon_tiles x hx
    all_goals
      open_payloads
      obtain ⟨h, hh⟩ := h
      have e0 : 128 * h + v.val = _ := hx1
      have hv := v.isLt
      interval_cases h <;> first | (exfalso; omega) | skip
      obtain rfl : x = ix2 i v := funext fun a => Fin.ext (by fin_cases a; exacts [hx0.symm, (by show (x 1).val = v.val; omega)])
      pointwise
      simp only [Fin.sum_univ_one]
      rfl

/-- The block of the decayed keys' gradient. -/
theorem dk_at (i : Fin 64) (v : Fin 128) : (outsAt0 m c t.val t.isLt).2.2.2.1 (ix2 i (col h v))
    = dKey (ds m c t h) ((data m c t).vals 0 h) i v := by
  unfold ds carried
  split
  all_goals rename_i h0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
  on_goal 2 =>
    simp only [read_unread_whole]
    generalize (outsAt0 m c (t.val - 1) _).2.2.2.2.2.2.2.2 = S
  on_goal 1 =>
    generalize k0_pay5 (F := Ideal) = S
  all_goals
    unfold data
    generalize iblk m c 0 t = X0, iblk m c 1 t = X1, iblk m c 2 t = X2, iblk m c 3 t = X3, iblk m c 4 t = X4, iblk m c 5 t = X5,
      iblk m c 7 t = X7, X0_6 m c t = X6, iblk m c 8 t = X8, iblk m c 9 t = X9
    canon_tiles x hx
    all_goals
      open_payloads
      obtain ⟨h, hh⟩ := h
      have e0 : 128 * h + v.val = _ := hx1
      have hv := v.isLt
      interval_cases h <;> first | (exfalso; omega) | skip
      obtain rfl : x = ix2 i v := funext fun a => Fin.ext (by fin_cases a; exacts [hx0.symm, (by show (x 1).val = v.val; omega)])
      pointwise
      refine Eq.trans ?_ (dKey_swap _ _ _ _)
      rfl

/-- The block of the scores' gradient. -/
theorem da_at (i j : Fin 64) : (outsAt0 m c t.val t.isLt).2.2.2.2.1 (ix4 0 h i j)
    = dScore ((data m c t).dO 0 h) ((data m c t).vals 0 h) i j := by
  by_cases h0 : t.val % 32 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
  all_goals
    unfold data
    generalize iblk m c 0 t = X0, iblk m c 1 t = X1, iblk m c 2 t = X2, iblk m c 3 t = X3, iblk m c 4 t = X4, iblk m c 5 t = X5,
      iblk m c 7 t = X7, X0_6 m c t = X6, iblk m c 8 t = X8, iblk m c 9 t = X9
    canon_tiles x hx
    all_goals
      open_payloads
      have e0 : (x 1).val = 0 := by omega
      rw [e0] at hx1
      obtain ⟨h, hh⟩ := h
      obtain rfl : h = _ := hx1
      obtain rfl : x = ix4 0 0 i j := funext fun a => Fin.ext (by fin_cases a; exacts [hx0.symm, e0, hx2.symm, hx3.symm])
      pointwise
      simp only [Fin.sum_univ_one]
      rfl

/-- The block of the last decays' gradient. -/
theorem dd_at (v : Fin 128) : (outsAt0 m c t.val t.isLt).2.2.2.2.2.1 (ix3 0 h v)
    = dDecay (ds m c t h) ((data m c t).s 0 h) v := by
  unfold ds carried
  split
  all_goals rename_i h0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
  on_goal 2 =>
    simp only [read_unread_whole]
    generalize (outsAt0 m c (t.val - 1) _).2.2.2.2.2.2.2.2 = S
  on_goal 1 =>
    generalize k0_pay5 (F := Ideal) = S
  all_goals
    unfold data
    generalize iblk m c 0 t = X0, iblk m c 1 t = X1, iblk m c 2 t = X2, iblk m c 3 t = X3, iblk m c 4 t = X4, iblk m c 5 t = X5,
      iblk m c 7 t = X7, X0_6 m c t = X6, iblk m c 8 t = X8, iblk m c 9 t = X9
    canon_tiles x hx
    all_goals
      open_payloads
      have e0 : (x 1).val = 0 := by omega
      rw [e0] at hx1
      obtain ⟨h, hh⟩ := h
      obtain rfl : h = _ := hx1
      obtain rfl : x = ix3 0 0 v := funext fun a => Fin.ext (by fin_cases a; exacts [hx0.symm, e0, hx2.symm])
      pointwise
      rfl

/-- The block of the gate's gradient. -/
theorem dz_at (i : Fin 64) (v : Fin 128) : (outsAt0 m c t.val t.isLt).2.2.2.2.2.2.1 (ix2 i (col h v))
    = dGate ((data m c t).outs 0 h) ((data m c t).z 0 h) (data m c t).g ((data m c t).e 0 h) i v := by
  by_cases h0 : t.val % 32 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
  all_goals
    unfold data
    generalize iblk m c 0 t = X0, iblk m c 1 t = X1, iblk m c 2 t = X2, iblk m c 3 t = X3, iblk m c 4 t = X4, iblk m c 5 t = X5,
      iblk m c 7 t = X7, X0_6 m c t = X6, iblk m c 8 t = X8, iblk m c 9 t = X9
    canon_tiles x hx
    all_goals
      open_payloads
      obtain ⟨h, hh⟩ := h
      have e0 : 128 * h + v.val = _ := hx1
      have hv := v.isLt
      interval_cases h <;> first | (exfalso; omega) | skip
      obtain rfl : x = ix2 i v := funext fun a => Fin.ext (by fin_cases a; exacts [hx0.symm, (by show (x 1).val = v.val; omega)])
      pointwise
      rfl

set_option maxHeartbeats 1000000 in
/-- The gradient a grid point leaves for the chunk before. -/
theorem state_at (k v : Fin 128) : (outsAt0 m c t.val t.isLt).2.2.2.2.2.2.2.2 (ix3 h k v)
    = dState (ds m c t h) ((data m c t).d 0 h) ((data m c t).dO 0 h) ((data m c t).q 0 h) ((data m c t).du 0 h (ds m c t h)) ((data m c t).w 0 h) k v := by
  unfold ds carried
  split
  all_goals rename_i h0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
  on_goal 2 =>
    simp only [read_unread_whole]
    generalize (outsAt0 m c (t.val - 1) _).2.2.2.2.2.2.2.2 = S
  on_goal 1 =>
    refine (Prefix.canon_four _ _ _ _ _ _ ?_).trans ?_
    · exact View.cover_of_tiledL (s := S4x128x128) _ S1x128x128.size (by sl_kernel_rfl) _
    generalize k0_pay5 (F := Ideal) = S
  all_goals
    unfold data
    generalize iblk m c 0 t = X0, iblk m c 1 t = X1, iblk m c 2 t = X2, iblk m c 3 t = X3, iblk m c 4 t = X4, iblk m c 5 t = X5,
      iblk m c 7 t = X7, X0_6 m c t = X6, iblk m c 8 t = X8, iblk m c 9 t = X9
    canon_tiles x hx
    all_goals
      open_payloads
      have e0 : (x 0).val = 0 := by omega
      rw [e0] at hx0
      obtain ⟨h, hh⟩ := h
      obtain rfl : h = _ := hx0
      obtain rfl : x = ix3 0 k v := funext fun a => Fin.ext (by fin_cases a; exacts [e0, hx1.symm, hx2.symm])
      pointwise
      simp only [Fin.sum_univ_one]
      refine Eq.trans ?_ (dState_swap _ _ _ _ _ _ _ _ _)
      rfl

/-- The gain's gradient a grid point starts from: zero at the first one, else what the point before left. -/
def gained : Vec Ideal S1x128 .f32 :=
  if t.val % 32 = 0 then k0_pay6 (F := Ideal)
  else (outsAt0 m c (t.val - 1) (Nat.lt_of_le_of_lt (Nat.sub_le _ _) t.isLt)).2.2.2.2.2.2.2.1

/-- What a grid point leaves of the gain's gradient. -/
theorem dgain_at (v : Fin 128) : (outsAt0 m c t.val t.isLt).2.2.2.2.2.2.2.1 (ix2 0 v) = gained m c t (ix2 0 v) + (data m c t).gain 0 v := by
  unfold gained
  split
  all_goals rename_i h0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
  on_goal 2 =>
    generalize (outsAt0 m c (t.val - 1) _).2.2.2.2.2.2.2.1 = S
  on_goal 1 =>
    generalize k0_pay6 (F := Ideal) = S
  all_goals
    unfold data
    generalize iblk m c 0 t = X0, iblk m c 1 t = X1, iblk m c 2 t = X2, iblk m c 3 t = X3, iblk m c 4 t = X4, iblk m c 5 t = X5,
      iblk m c 7 t = X7, X0_6 m c t = X6, iblk m c 8 t = X8, iblk m c 9 t = X9
    open_payloads
    pointwise
    refine congrArg (S _ + ·) (Eq.trans ?_ (Back.gain_swap _ _ _))
    rfl

end Cert.Proof.BwdKernel

end
-- ==== Proof.BwdRef.lean ====
/-
  The backward scan's reference: what one trip of the scan over the chunks leaves, in the words of BwdScan.lean.
-/
module

public import proofs.«01_k».proof.Proof.Gen.ReferenceIdeal.Step
public import proofs.«01_k».proof.Proof.BwdScan
public import proofs.«01_k».proof.Proof.Slices

@[expose] public section

set_option maxRecDepth 16384

noncomputable section

open Idealize.ShloMosaic Idealize.ShloMosaic.Pointwise Idealize.SL.Sem
open Cert.ReferenceIdeal Cert.ReferenceIdeal.Step Cert.Proof.Spec

namespace Cert.Proof.BwdRef

/-- A sum over the two leading axes of an array of three. -/
theorem sum_two {A B C : ℕ} (hr : (⟨3, ![A, B, C]⟩ : Shape).ReducesTo [0, 1] ⟨1, ![C]⟩) (x : (⟨3, ![A, B, C]⟩ : Shape).Idx → EReal)
    (z : EReal) (v : Fin C) : Ideal.hostReduceAdd hr x z (ix1 v) = z + ∑ a, ∑ b, x (ix3 a b v) := by
  show z + ∑ i ∈ Finset.univ.filter (fun i => hr.drop i = ix1 v), x i = _
  rw [Finset.sum_sigma']
  refine congrArg (z + ·) (Finset.sum_bij' (fun i _ => ⟨i 0, i 1⟩) (fun p _ => ix3 p.1 p.2 v) ?_ ?_ ?_ ?_ ?_)
  · exact fun _ _ => Finset.mem_sigma.mpr ⟨Finset.mem_univ _, Finset.mem_univ _⟩
  · refine fun p _ => Finset.mem_filter.mpr ⟨Finset.mem_univ _, ?_⟩
    funext b
    obtain rfl : b = (0 : Fin 1) := Subsingleton.elim (α := Fin 1) b 0
    rfl
  · intro i hi
    have e := congrFun (Finset.mem_filter.mp hi).2 0
    have e' : i 2 = v := e
    funext a
    fin_cases a
    · rfl
    · rfl
    · exact e'.symm
  · intro p _
    rfl
  · intro i hi
    have e := congrFun (Finset.mem_filter.mp hi).2 0
    have e' : i 2 = v := e
    refine congrArg x (funext fun a => ?_)
    fin_cases a
    · rfl
    · rfl
    · exact e'

variable (j : Fin 32) (s : State Ideal) (h : Fin 4)

/-- The trip's word: the chunks from the last one down. -/
theorem word (i : S_.Idx) : ((b3 j s : (⟨S_, .i32⟩ : BufTy).Contents (Elt Ideal)) i).toInt = ((rev j).val : Int) := by
  unfold b3 b2 b1 b0 rev
  revert j
  decide +revert

/-- The trip's start words of four axes. -/
theorem start4 (z₁ z₂ z₃ : (⟨S_, .i32⟩ : BufTy).Contents (Elt Ideal)) (e₁ : z₁ = constantI S_ 32 0#32)
    (e₂ : z₂ = constantI S_ 32 0#32) (e₃ : z₃ = constantI S_ 32 0#32) (i : S_.Idx) (a : Fin 4) :
    ((![(b3 j s), z₁, z₂, z₃] : Fin 4 → (⟨S_, .i32⟩ : BufTy).Contents (Elt Ideal)) a i).toInt
      = ((![(rev j).val, 0, 0, 0] : Fin 4 → ℕ) a : Int) := by
  subst e₁ e₂ e₃
  fin_cases a
  · exact word j s i
  · rfl
  · rfl
  · rfl

/-- The trip's start words of three axes. -/
theorem start3 (z₁ z₂ : (⟨S_, .i32⟩ : BufTy).Contents (Elt Ideal)) (e₁ : z₁ = constantI S_ 32 0#32)
    (e₂ : z₂ = constantI S_ 32 0#32) (i : S_.Idx) (a : Fin 3) :
    ((![(b3 j s), z₁, z₂] : Fin 3 → (⟨S_, .i32⟩ : BufTy).Contents (Elt Ideal)) a i).toInt
      = ((![(rev j).val, 0, 0] : Fin 3 → ℕ) a : Int) := by
  subst e₁ e₂
  fin_cases a
  · exact word j s i
  · rfl
  · rfl

/-- The trip's chunk: its state before it. -/
theorem s_at (k v : Fin 128) : b8 j s (ix3 h k v) = s.main_v23_0 (ix4 (rev j) h k v) := by
  unfold b8 b7
  erw [Slices.slice4 _ _ (rev j) _ (start4 j s _ _ _ rfl rfl rfl _)]
  pointwise

/-- The trip's chunk: its gradient that comes back to it. -/
theorem e_at (c : Fin 64) (v : Fin 128) : b13 j s (ix3 h c v) = s.main_v23_1 (ix4 (rev j) h c v) := by
  unfold b13 b12
  erw [Slices.slice4 _ _ (rev j) _ (start4 j s _ _ _ rfl rfl rfl _)]
  pointwise

/-- The trip's chunk: its values. -/
theorem u_at (c : Fin 64) (v : Fin 128) : b18 j s (ix3 h c v) = s.main_v23_2 (ix4 (rev j) h c v) := by
  unfold b18 b17
  erw [Slices.slice4 _ _ (rev j) _ (start4 j s _ _ _ rfl rfl rfl _)]
  pointwise

/-- The trip's chunk: its keys' products. -/
theorem w_at (c : Fin 64) (v : Fin 128) : b23 j s (ix3 h c v) = s.main_v23_3 (ix4 (rev j) h c v) := by
  unfold b23 b22
  erw [Slices.slice4 _ _ (rev j) _ (start4 j s _ _ _ rfl rfl rfl _)]
  pointwise

/-- The trip's chunk: its scores. -/
theorem a_at (c v : Fin 64) : b28 j s (ix3 h c v) = s.main_v23_4 (ix4 (rev j) h c v) := by
  unfold b28 b27
  erw [Slices.slice4 _ _ (rev j) _ (start4 j s _ _ _ rfl rfl rfl _)]
  pointwise

/-- The trip's chunk: its decayed queries. -/
theorem q_at (c : Fin 64) (v : Fin 128) : b33 j s (ix3 h c v) = s.main_v23_5 (ix4 (rev j) h c v) := by
  unfold b33 b32
  erw [Slices.slice4 _ _ (rev j) _ (start4 j s _ _ _ rfl rfl rfl _)]
  pointwise

/-- The trip's chunk: its decayed keys. -/
theorem k_at (c : Fin 64) (v : Fin 128) : b38 j s (ix3 h c v) = s.main_v23_6 (ix4 (rev j) h c v) := by
  unfold b38 b37
  erw [Slices.slice4 _ _ (rev j) _ (start4 j s _ _ _ rfl rfl rfl _)]
  pointwise

/-- The trip's chunk: its last decay. -/
theorem d_at (v : Fin 128) : b42 j s (ix2 h v) = s.main_v23_7 (ix3 (rev j) h v) := by
  unfold b42 b41
  erw [Slices.slice3 _ _ (rev j) _ (start3 j s _ _ rfl rfl _)]
  pointwise

/-- The trip's chunk: its gate's argument. -/
theorem z_at (c : Fin 64) (v : Fin 128) : b47 j s (ix3 h c v) = s.main_v23_8 (ix4 (rev j) h c v) := by
  unfold b47 b46
  erw [Slices.slice4 _ _ (rev j) _ (start4 j s _ _ _ rfl rfl rfl _)]
  pointwise

/-- The state's data. -/
def data : Back where
  s n h k v := s.main_v23_0 (ix4 n h k v)
  e n h c v := s.main_v23_1 (ix4 n h c v)
  u n h c v := s.main_v23_2 (ix4 n h c v)
  w n h c v := s.main_v23_3 (ix4 n h c v)
  a n h c i := s.main_v23_4 (ix4 n h c i)
  q n h c v := s.main_v23_5 (ix4 n h c v)
  k n h c v := s.main_v23_6 (ix4 n h c v)
  d n h v := s.main_v23_7 (ix3 n h v)
  z n h c v := s.main_v23_8 (ix4 n h c v)
  g v := s.main_v23_9 (ix2 0 v)

/-- The gradient the trip starts from, of head `h`. -/
def ds (k v : Fin 128) : EReal := s.main_v23_11 (ix3 h k v)

/-- The trip's written values. -/
theorem vals_at (c : Fin 64) (v : Fin 128) : b49 j s (ix3 h c v) = (data s).vals (rev j) h c v := by
  unfold b49 b48
  pointwise
  rw [u_at]
  simp only [w_at, s_at]
  rfl

/-- The trip's output before its norm. -/
theorem outs_at (c : Fin 64) (v : Fin 128) : b52 j s (ix3 h c v) = (data s).outs (rev j) h c v := by
  unfold b52 b51 b50
  pointwise
  simp only [q_at, a_at, s_at, vals_at]
  rfl

/-- The mean square, at any index of its third axis. -/
theorem ms_at (c : Fin 64) (x : Fin 1) : b67 j s (ix3 h c x) = ms ((data s).outs (rev j) h) c := by
  unfold b67 b66 b65 b64 b63 b62 b61 b60 b59 b58
  pointwise
  simp only [outs_at]
  rfl

/-- Their inverse roots. -/
theorem rinv_at (c : Fin 64) (x : Fin 1) : b68 j s (ix3 h c x) = rinv ((data s).outs (rev j) h) c := by
  unfold b68
  pointwise
  rw [ms_at]
  rfl

/-- The gate's logistic. -/
theorem sig_at (c : Fin 64) (v : Fin 128) : b85 j s (ix3 h c v) = sig ((data s).z (rev j) h c v) := by
  unfold b85 b84 b83 b82 b81 b80 b79 b78
  pointwise
  rw [z_at]
  rfl

/-- The gradient of the normed output. -/
theorem dNormed_at (c : Fin 64) (v : Fin 128) :
    b93 j s (ix3 h c v) = dNormed ((data s).z (rev j) h) ((data s).e (rev j) h) c v := by
  unfold b93 b90
  pointwise
  rw [sig_at, z_at, e_at]
  rfl

/-- The output after its norm and gain. -/
theorem normed_at (c : Fin 64) (v : Fin 128) :
    b74 j s (ix3 h c v) = (data s).outs (rev j) h c v * rinv ((data s).outs (rev j) h) c := by
  unfold b74 b73
  pointwise
  rw [outs_at, rinv_at]

/-- The gradient of the gate's argument. -/
theorem dGate_at (c : Fin 64) (v : Fin 128) : b97 j s (ix3 h c v) = (data s).gz (rev j) h c v := by
  unfold b97 b96 b95 b94 b92 b89 b88 b87 b86 b77 b76 b75
  pointwise
  rw [normed_at, sig_at, z_at, e_at]
  rfl

/-- The gradient before the gain. -/
theorem dPre_at (c : Fin 64) (v : Fin 128) :
    b103 j s (ix3 h c v) = dNormed ((data s).z (rev j) h) ((data s).e (rev j) h) c v * (data s).g v := by
  unfold b103 b102 b75
  pointwise
  rw [dNormed_at]
  rfl

/-- The gradient of the mean squares. -/
theorem dMean_at (c : Fin 64) (v : Fin 128) : b119 j s (ix3 h c v)
    = dMean ((data s).outs (rev j) h) (fun c v => dNormed ((data s).z (rev j) h) ((data s).e (rev j) h) c v * (data s).g v) c := by
  unfold b119 b118 b117 b116 b115 b114 b113 b110 b109 b108 b107 b72 b71 b70 b69
  pointwise
  simp only [Fin.sum_univ_one, outs_at, dPre_at, rinv_at, ms_at]
  rfl

/-- The gradient of the output before its norm. -/
theorem dO_at (c : Fin 64) (v : Fin 128) : b123 j s (ix3 h c v) = (data s).dO (rev j) h c v := by
  unfold b123 b122 b121 b120 b112 b111
  pointwise
  rw [dPre_at, dMean_at, outs_at, rinv_at]
  rfl

/-- The gradient of the written values. -/
theorem du_at (c : Fin 64) (v : Fin 128) : b138 j s (ix3 h c v) = (data s).du (rev j) h (ds s h) c v := by
  unfold b138 b137 b136 b125 b124
  pointwise
  simp only [dO_at, k_at, a_at]
  rfl

/-- The gradient of the decayed keys. -/
theorem dk_at (c : Fin 64) (v : Fin 128) : b127 j s (ix3 h c v) = dKey (ds s h) ((data s).vals (rev j) h) c v := by
  unfold b127 b126
  pointwise
  simp only [vals_at]
  rfl

/-- The gradient of the last decay. -/
theorem dd_at (v : Fin 128) : b135 j s (ix2 h v) = dDecay (ds s h) ((data s).s (rev j) h) v := by
  unfold b135 b134 b131 b130 b129 b128
  pointwise
  simp only [Fin.sum_univ_one, s_at]
  rfl

/-- The gradient of the scores. -/
theorem da_at (c i : Fin 64) : b139 j s (ix3 h c i) = (data s).ga (rev j) h c i := by
  unfold b139
  pointwise
  simp only [vals_at, dO_at]
  rfl

/-- The gradient of the decayed queries. -/
theorem dq_at (c : Fin 64) (v : Fin 128) : b143 j s (ix3 h c v) = (data s).gq (rev j) h c v := by
  unfold b143
  pointwise
  simp only [s_at, dO_at]
  rfl

/-- The gradient of the keys' products with the state. -/
theorem dw_at (c : Fin 64) (v : Fin 128) :
    b148 j s (ix3 h c v) = dProd ((data s).du (rev j) h (ds s h)) ((data s).s (rev j) h) c v := by
  unfold b148 b144
  pointwise
  simp only [s_at, du_at]
  rfl

/-- The gradient the trip hands the next one. -/
theorem dstate_at (k v : Fin 128) : (step j s).main_v23_11 (ix3 h k v)
    = dState (ds s h) ((data s).d (rev j) h) ((data s).dO (rev j) h) ((data s).q (rev j) h) ((data s).du (rev j) h (ds s h))
        ((data s).w (rev j) h) k v := by
  rw [step_main_v23_11]
  unfold b147 b146 b145 b144 b142 b141 b140 b133 b132 b53
  pointwise
  simp only [d_at, w_at, q_at, dO_at, du_at]
  rfl

/-- The gain's gradient the trip hands the next one. -/
theorem dgain_at (v : Fin 128) : (step j s).main_v23_12 (ix2 0 v) = s.main_v23_12 (ix2 0 v) + (data s).gain (rev j) v := by
  rw [step_main_v23_12]
  unfold b149 b106 b105 b104 b101 b100 b99 b98
  pointwise
  rw [sum_two]
  pointwise
  simp only [Fin.sum_univ_one]
  erw [sum_two]
  pointwise
  simp only [normed_at, dNormed_at]
  rfl

/-- The trip sets its chunk's entry in the stack of the values' gradients. -/
theorem gu_at (n : Fin 32) (c : Fin 64) (v : Fin 128) : (step j s).main_v23_13 (ix4 n h c v)
    = if n = rev j then (data s).du (rev j) h (ds s h) c v else s.main_v23_13 (ix4 n h c v) := by
  rw [step_main_v23_13]
  unfold b154
  erw [Slices.store4 _ _ _ (rev j) n _ (start4 j s _ _ _ rfl rfl rfl _)]
  unfold b150
  pointwise
  rw [du_at]

/-- The same for the keys' products. -/
theorem gw_at (n : Fin 32) (c : Fin 64) (v : Fin 128) : (step j s).main_v23_14 (ix4 n h c v)
    = if n = rev j then dProd ((data s).du (rev j) h (ds s h)) ((data s).s (rev j) h) c v else s.main_v23_14 (ix4 n h c v) := by
  rw [step_main_v23_14]
  unfold b159
  erw [Slices.store4 _ _ _ (rev j) n _ (start4 j s _ _ _ rfl rfl rfl _)]
  unfold b155
  pointwise
  rw [dw_at]

/-- The same for the scores. -/
theorem ga_at (n : Fin 32) (c v : Fin 64) : (step j s).main_v23_15 (ix4 n h c v)
    = if n = rev j then (data s).ga (rev j) h c v else s.main_v23_15 (ix4 n h c v) := by
  rw [step_main_v23_15]
  unfold b164
  erw [Slices.store4 _ _ _ (rev j) n _ (start4 j s _ _ _ rfl rfl rfl _)]
  unfold b160
  pointwise
  rw [da_at]

/-- The same for the decayed queries. -/
theorem gq_at (n : Fin 32) (c : Fin 64) (v : Fin 128) : (step j s).main_v23_16 (ix4 n h c v)
    = if n = rev j then (data s).gq (rev j) h c v else s.main_v23_16 (ix4 n h c v) := by
  rw [step_main_v23_16]
  unfold b169
  erw [Slices.store4 _ _ _ (rev j) n _ (start4 j s _ _ _ rfl rfl rfl _)]
  unfold b165
  pointwise
  rw [dq_at]

/-- The same for the decayed keys. -/
theorem gk_at (n : Fin 32) (c : Fin 64) (v : Fin 128) : (step j s).main_v23_17 (ix4 n h c v)
    = if n = rev j then dKey (ds s h) ((data s).vals (rev j) h) c v else s.main_v23_17 (ix4 n h c v) := by
  rw [step_main_v23_17]
  unfold b174
  erw [Slices.store4 _ _ _ (rev j) n _ (start4 j s _ _ _ rfl rfl rfl _)]
  unfold b170
  pointwise
  rw [dk_at]

/-- The same for the last decays. -/
theorem gd_at (n : Fin 32) (v : Fin 128) : (step j s).main_v23_18 (ix3 n h v)
    = if n = rev j then dDecay (ds s h) ((data s).s (rev j) h) v else s.main_v23_18 (ix3 n h v) := by
  rw [step_main_v23_18]
  unfold b178
  erw [Slices.store3 _ _ _ (rev j) n _ (start3 j s _ _ rfl rfl _)]
  unfold b175
  pointwise
  rw [dd_at]

/-- The same for the gate's argument. -/
theorem gz_at (n : Fin 32) (c : Fin 64) (v : Fin 128) : (step j s).main_v23_19 (ix4 n h c v)
    = if n = rev j then (data s).gz (rev j) h c v else s.main_v23_19 (ix4 n h c v) := by
  rw [step_main_v23_19]
  unfold b183
  erw [Slices.store4 _ _ _ (rev j) n _ (start4 j s _ _ _ rfl rfl rfl _)]
  unfold b179
  pointwise
  rw [dGate_at]

end Cert.Proof.BwdRef

end
-- ==== Proof.BwdRefRun.lean ====
/-
  The backward scan's reference: its run leaves the state of `step` iterated 32 times from `init`.
-/
module

public import proofs.«01_k».proof.Proof.Gen.ReferenceIdeal.Run
public import proofs.«01_k».proof.Proof.Gen.ReferenceIdeal.Step

@[expose] public section

set_option maxRecDepth 65536

noncomputable section

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

namespace Cert.Proof.BwdRefRun

variable {F : FTy → Type} [FloatOps F]

/-- The loop's state, read off the buffers. -/
def held (V : Valuation τ sig (Elt F)) : State F where
  main_v23_0 := V (Proc.devRef .tc main_v23_0)
  main_v23_1 := V (Proc.devRef .tc main_v23_1)
  main_v23_2 := V (Proc.devRef .tc main_v23_2)
  main_v23_3 := V (Proc.devRef .tc main_v23_3)
  main_v23_4 := V (Proc.devRef .tc main_v23_4)
  main_v23_5 := V (Proc.devRef .tc main_v23_5)
  main_v23_6 := V (Proc.devRef .tc main_v23_6)
  main_v23_7 := V (Proc.devRef .tc main_v23_7)
  main_v23_8 := V (Proc.devRef .tc main_v23_8)
  main_v23_9 := V (Proc.devRef .tc main_v23_9)
  main_v23_11 := V (Proc.devRef .tc main_v23_11)
  main_v23_12 := V (Proc.devRef .tc main_v23_12)
  main_v23_13 := V (Proc.devRef .tc main_v23_13)
  main_v23_14 := V (Proc.devRef .tc main_v23_14)
  main_v23_15 := V (Proc.devRef .tc main_v23_15)
  main_v23_16 := V (Proc.devRef .tc main_v23_16)
  main_v23_17 := V (Proc.devRef .tc main_v23_17)
  main_v23_18 := V (Proc.devRef .tc main_v23_18)
  main_v23_19 := V (Proc.devRef .tc main_v23_19)

/-- One trip over the buffers is one `step` of the state. -/
theorem held_STEP (V : Valuation τ sig (Elt F)) (j : ℕ)
    (hn : V (Proc.devRef .tc main_v23_10) = constantI S_ 32 (BitVec.ofNat 32 j)) :
    held (STEP V) = step j (held V) := by
  unfold held
  rw [STEP_main_v23_0, STEP_main_v23_1, STEP_main_v23_2, STEP_main_v23_3, STEP_main_v23_4, STEP_main_v23_5, STEP_main_v23_6, STEP_main_v23_7, STEP_main_v23_8, STEP_main_v23_9, STEP_main_v23_11, STEP_main_v23_12, STEP_main_v23_13, STEP_main_v23_14, STEP_main_v23_15, STEP_main_v23_16, STEP_main_v23_17, STEP_main_v23_18, STEP_main_v23_19]
  unfold step_main_v23_11 step_main_v23_12 step_main_v23_13 step_main_v23_14 step_main_v23_15 step_main_v23_16 step_main_v23_17 step_main_v23_18 step_main_v23_19
  unfold res_main_while0b_v115 res_main_while0b_v109 res_main_while0b_v96 res_main_while0b_v92 res_main_while0b_v80 res_main_while0b_v74 res_main_while0b_v73 res_main_while0b_v71_0 res_main_while0b_v71_2 res_main_while0b_v70 res_main_while0b_v68 res_main_while0b_v67 res_main_while0b_v62 res_main_while0b_v61 res_main_while0b_v50 res_main_while0b_v49 res_main_while0b_v46 res_main_while0b_v44 res_main_while0b_v42 res_main_while0b_v41 res_main_while0b_v40 res_main_while0b_v39 res_main_while0b_v37 res_main_while0b_v36 res_main_while0b_v35
  simp only [hn]
  rfl

/-- One trip counts the trip number up. -/
theorem count_STEP (V : Valuation τ sig (Elt F)) (j : ℕ)
    (hn : V (Proc.devRef .tc main_v23_10) = constantI S_ 32 (BitVec.ofNat 32 j)) :
    STEP V (Proc.devRef .tc main_v23_10) = constantI S_ 32 (BitVec.ofNat 32 (j + 1)) := by
  rw [STEP_main_v23_10]
  unfold step_main_v23_10
  rw [hn]
  funext i
  show BitVec.ofNat 32 j + 1#32 = BitVec.ofNat 32 (j + 1)
  simp only [BitVec.ofNat_add]

variable (m : (ℓ : Loc nD τ sig) → Buf (Elt F) ℓ) (c : Dev nD)

/-- The state the first trip starts from. -/
def start : State F :=
  init (m ((c.tc : Thread nD τ).loc main_arg8)) (m ((c.tc : Thread nD τ).loc main_arg4)) (m ((c.tc : Thread nD τ).loc main_arg5)) (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg9))

/-- The state after `n` trips. -/
def iter : ℕ → State F
  | 0 => start m c
  | n + 1 => step n (iter n)

set_option maxHeartbeats 1000000 in
/-- The operations before the loop leave the first trip's state and trip number 0. -/
theorem entry : held (entryContents preI m c) = start m c
    ∧ entryContents preI m c (Proc.devRef .tc main_v23_10) = constantI S_ 32 (BitVec.ofNat 32 0) := by
  constructor
  · unfold held
    simp only [entryContents, afterL_cons, afterL_nil]
    after_reads_simp
    rfl
  · simp only [entryContents, afterL_cons, afterL_nil]
    after_reads_simp
    rfl

/-- Before the condition of trip `n` the buffers hold the state after `n` trips, and the number `n`. -/
theorem held_iter : ∀ n, held (STEP^[n] (entryContents preI m c)) = iter m c n
    ∧ (STEP^[n] (entryContents preI m c)) (Proc.devRef .tc main_v23_10) = constantI S_ 32 (BitVec.ofNat 32 n)
  | 0 => entry m c
  | n + 1 => by
    obtain ⟨e, hn⟩ := held_iter n
    rw [Function.iterate_succ_apply']
    exact ⟨(held_STEP _ n hn).trans (congrArg (step n) e), count_STEP _ n hn⟩

/-- The result `v25` is a layout change of a stack of the state. -/
theorem held_v25 (V : Valuation τ sig (Elt F)) (s : State F) (e : held V = s) :
    out_main_v25 V = Cert.ReferenceIdeal.Step.R_main_v25 s := by
  subst e
  rfl

/-- The result `v27` is a layout change of a stack of the state. -/
theorem held_v27 (V : Valuation τ sig (Elt F)) (s : State F) (e : held V = s) :
    out_main_v27 V = Cert.ReferenceIdeal.Step.R_main_v27 s := by
  subst e
  rfl

/-- The result `v29` is a layout change of a stack of the state. -/
theorem held_v29 (V : Valuation τ sig (Elt F)) (s : State F) (e : held V = s) :
    out_main_v29 V = Cert.ReferenceIdeal.Step.R_main_v29 s := by
  subst e
  rfl

/-- The result `v31` is a layout change of a stack of the state. -/
theorem held_v31 (V : Valuation τ sig (Elt F)) (s : State F) (e : held V = s) :
    out_main_v31 V = Cert.ReferenceIdeal.Step.R_main_v31 s := by
  subst e
  rfl

/-- The result `v23_15` is the state's. -/
theorem held_v23_15 (V : Valuation τ sig (Elt F)) (s : State F) (e : held V = s) : V (Proc.devRef .tc main_v23_15) = s.main_v23_15 := by
  subst e
  rfl

/-- The result `v23_18` is the state's. -/
theorem held_v23_18 (V : Valuation τ sig (Elt F)) (s : State F) (e : held V = s) : V (Proc.devRef .tc main_v23_18) = s.main_v23_18 := by
  subst e
  rfl

/-- The result `v33` is a layout change of a stack of the state. -/
theorem held_v33 (V : Valuation τ sig (Elt F)) (s : State F) (e : held V = s) :
    out_main_v33 V = Cert.ReferenceIdeal.Step.R_main_v33 s := by
  subst e
  rfl

/-- The result `v23_12` is the state's. -/
theorem held_v23_12 (V : Valuation τ sig (Elt F)) (s : State F) (e : held V = s) : V (Proc.devRef .tc main_v23_12) = s.main_v23_12 := by
  subst e
  rfl

/-- The run: every result read off the state after 32 trips, and every argument unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v25) = Cert.ReferenceIdeal.Step.R_main_v25 (iter m c 32)
      ∧ r.2.mem ((c.tc : Thread nD τ).loc main_v27) = Cert.ReferenceIdeal.Step.R_main_v27 (iter m c 32)
      ∧ r.2.mem ((c.tc : Thread nD τ).loc main_v29) = Cert.ReferenceIdeal.Step.R_main_v29 (iter m c 32)
      ∧ r.2.mem ((c.tc : Thread nD τ).loc main_v31) = Cert.ReferenceIdeal.Step.R_main_v31 (iter m c 32)
      ∧ r.2.mem ((c.tc : Thread nD τ).loc main_v23_15) = (iter m c 32).main_v23_15
      ∧ r.2.mem ((c.tc : Thread nD τ).loc main_v23_18) = (iter m c 32).main_v23_18
      ∧ r.2.mem ((c.tc : Thread nD τ).loc main_v33) = Cert.ReferenceIdeal.Step.R_main_v33 (iter m c 32)
      ∧ r.2.mem ((c.tc : Thread nD τ).loc main_v23_12) = (iter m c 32).main_v23_12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have e := (held_iter m c 32).1
    ⟨(h c).1.trans (held_v25 _ _ e), (h c).2.1.trans (held_v27 _ _ e), (h c).2.2.1.trans (held_v29 _ _ e), (h c).2.2.2.1.trans (held_v31 _ _ e), (h c).2.2.2.2.1.trans (held_v23_15 _ _ e), (h c).2.2.2.2.2.1.trans (held_v23_18 _ _ e), (h c).2.2.2.2.2.2.1.trans (held_v33 _ _ e), (h c).2.2.2.2.2.2.2.1.trans (held_v23_12 _ _ e), (h c).2.2.2.2.2.2.2.2⟩)
    (Value.run m ρ)

end Cert.Proof.BwdRefRun

end
-- ==== Proof.BwdRefScan.lean ====
/-
  The backward scan's reference computes the scan's gradient of BwdScan.lean over its arguments.
-/
module

public import proofs.«01_k».proof.Proof.BwdRef
public import proofs.«01_k».proof.Proof.BwdRefRun
public import proofs.«01_k».proof.Proof.FwdRefScan

@[expose] public section

set_option maxRecDepth 16384

noncomputable section

open Idealize.ShloMosaic Idealize.ShloMosaic.TcCoe Idealize.ShloMosaic.Pointwise Idealize.SL.Sem
open Cert.ReferenceIdeal Cert.ReferenceIdeal.Gen Cert.ReferenceIdeal.Step Cert.Proof.BwdRefRun Cert.Proof.Spec

namespace Cert.Proof.BwdRefScan

variable (m : (ℓ : Loc nD τ sig) → Buf (Elt Ideal) ℓ) (c : Dev nD)

/-- The arguments as the data of the scan's gradient. -/
def back : Back := backOf (scanOf
  (fun r x => (m ((c.tc : Thread nD τ).loc main_arg0) : FVec Ideal S2048x512 .f32) (ix2 r x))
  (fun r x => (m ((c.tc : Thread nD τ).loc main_arg1) : FVec Ideal S2048x512 .f32) (ix2 r x))
  (fun r x => (m ((c.tc : Thread nD τ).loc main_arg2) : FVec Ideal S2048x512 .f32) (ix2 r x))
  (fun r x => (m ((c.tc : Thread nD τ).loc main_arg3) : FVec Ideal S2048x512 .f32) (ix2 r x))
  (fun n h i j => (m ((c.tc : Thread nD τ).loc main_arg4) : FVec Ideal S32x4x64x64 .f32) (ix4 n h i j))
  (fun n h v => (m ((c.tc : Thread nD τ).loc main_arg5) : FVec Ideal S32x4x128 .f32) (ix3 n h v))
  (fun r x => (m ((c.tc : Thread nD τ).loc main_arg6) : FVec Ideal S2048x4224 .f32) (ix2 r ⟨1536 + x.val, by have := x.isLt; omega⟩))
  (fun v => (m ((c.tc : Thread nD τ).loc main_arg7) : FVec Ideal S1x128 .f32) (ix2 0 v)))
  (fun n h k v => (m ((c.tc : Thread nD τ).loc main_arg8) : FVec Ideal S32x4x128x128 .f32) (ix4 n h k v))
  (fun r x => (m ((c.tc : Thread nD τ).loc main_arg9) : FVec Ideal S2048x1024 .bf16) (ix2 r ⟨x.val, by have := x.isLt; omega⟩))

/-- A layout by heads reads the token's row and the head's column. -/
theorem heads_at (A : FVec Ideal S2048x512 .f32) (n : Fin 32) (h : Fin 4) (i : Fin 64) (v : Fin 128) :
    (transpose S32x4x64x128 [0, 2, 1, 3] (shapeCast S32x64x4x128 A shapeCasts_S2048x512_S32x64x4x128)
      transposes_S32x64x4x128_S32x4x64x128_0_2_1_3 : FVec Ideal S32x4x64x128 .f32) (ix4 n h i v) = A (ix2 (row n i) (col h v)) := by
  unfold row col
  pointwise
  simp only [Nat.mul_comm]

/-- A layout by tokens reads the chunk's and the head's entry. -/
theorem tokens_at (A : FVec Ideal S32x4x64x128 .f32) (n : Fin 32) (h : Fin 4) (i : Fin 64) (v : Fin 128) :
    (shapeCast _ (transpose S32x64x4x128 [0, 2, 1, 3] A transposes_S32x4x64x128_S32x64x4x128_0_2_1_3)
      shapeCasts_S32x64x4x128_S2048x512 : FVec Ideal S2048x512 .f32) (ix2 (row n i) (col h v)) = A (ix4 n h i v) := by
  unfold row col
  pointwise

/-- The first trip's state holds the arguments' data. -/
theorem data_start : BwdRef.data (start m c) = back m c := by
  refine Back.ext_fields ?_ ?_ ?_ ?_ ?_ rfl rfl rfl rfl ?_
  · funext n h i v; exact heads_at _ n h i v
  · funext n h i v; exact heads_at _ n h i v
  · funext n h i v; exact heads_at _ n h i v
  · funext n h i v; exact heads_at _ n h i v
  · funext n h i v
    refine (heads_at (extractStridedSlice S2048x512 ![0, 1536] (m ((c.tc : Thread nD τ).loc main_arg6)) slices_S2048x4224_S2048x512_0_1536)
      n h i v).trans ?_
    pointwise
    rfl
  · funext n h i v
    refine (heads_at (extractStridedSlice S2048x512 ![0, 0] (m ((c.tc : Thread nD τ).loc main_arg9)) slices_S2048x1024_S2048x512_0_0)
      n h i v).trans ?_
    pointwise
    rfl

/-- A trip leaves the data. -/
theorem data_step (n : ℕ) (s : State Ideal) : BwdRef.data (step n s) = BwdRef.data s := rfl

/-- Every trip's state holds the arguments' data. -/
theorem data_iter : ∀ n, BwdRef.data (iter m c n) = back m c
  | 0 => data_start m c
  | n + 1 => (data_step n _).trans (data_iter n)

/-- The carried gradient before trip `n`. -/
theorem carried : ∀ n, n ≤ 32 → ∀ (h : Fin 4), BwdRef.ds (iter m c n) h = (back m c).dstate n h
  | 0, _, h => by
    funext k v
    show K_main_v14 (F := Ideal) (ix3 h k v) = Ideal.ofBits FTy.f32 0x00000000#32
    unfold K_main_v14 K_main_cst
    pointwise
  | n + 1, hn, h => by
    funext k v
    refine (BwdRef.dstate_at ⟨n, hn⟩ (iter m c n) h k v).trans ?_
    rw [data_iter, carried n (by omega) h]
    rfl

/-- The gain's gradient before trip `n`. -/
theorem gained : ∀ n, n ≤ 32 → ∀ (v : Fin 128), (iter m c n).main_v23_12 (ix2 0 v) = (back m c).dgain n v
  | 0, _, v => by
    show K_main_v15 (F := Ideal) (ix2 0 v) = Ideal.ofBits FTy.f32 0x00000000#32
    unfold K_main_v15 K_main_cst_0
    pointwise
  | n + 1, hn, v => by
    refine (BwdRef.dgain_at ⟨n, hn⟩ (iter m c n) v).trans ?_
    rw [data_iter, gained n (by omega) v]
    rfl

/-- A stack of which trip `n` sets the entry of the chunk it treats alone: in the end every entry is what its trip set. -/
theorem stack_rev {β : Type} (S : ℕ → Fin 32 → β) (f : Fin 32 → β)
    (hS : ∀ (n : Fin 32) (j : Fin 32), S (n.val + 1) j = if j = rev n.val then f (rev n.val) else S n.val j) (j : Fin 32) :
    S 32 j = f j := by
  have H := FwdRefScan.stack_at (fun N j => S N (rev j.val)) (fun n => f (rev n.val)) 32 (fun n j => (hS n _).trans ?_) le_rfl
    (rev j.val) (rev j.val).isLt
  · simpa only [rev_rev] using H
  · have e : rev j.val = rev n.val ↔ j = n :=
      ⟨fun e => by rw [← rev_rev j, e, rev_rev], fun e => by rw [e]⟩
    simp only [e]

/-- The stacked gradients of the written values after the loop. -/
theorem gu_eq (n : Fin 32) (h : Fin 4) (i : Fin 64) (v : Fin 128) : (iter m c 32).main_v23_13 (ix4 n h i v) = (back m c).gu n h i v := by
  refine stack_rev (fun N j => (iter m c N).main_v23_13 (ix4 j h i v)) (fun n => (back m c).gu n h i v) (fun n j => ?_) n
  refine (BwdRef.gu_at n _ h j i v).trans ?_
  have hn := n.isLt
  rw [data_iter, carried m c n.val (by omega)]
  unfold Back.gu
  rw [Back.ds_rev]

/-- The stacked gradients of the keys' products after the loop. -/
theorem gw_eq (n : Fin 32) (h : Fin 4) (i : Fin 64) (v : Fin 128) : (iter m c 32).main_v23_14 (ix4 n h i v) = (back m c).gw n h i v := by
  refine stack_rev (fun N j => (iter m c N).main_v23_14 (ix4 j h i v)) (fun n => (back m c).gw n h i v) (fun n j => ?_) n
  refine (BwdRef.gw_at n _ h j i v).trans ?_
  have hn := n.isLt
  rw [data_iter, carried m c n.val (by omega)]
  unfold Back.gw Back.gu
  rw [Back.ds_rev]

/-- The stacked gradients of the scores after the loop. -/
theorem ga_eq (n : Fin 32) (h : Fin 4) (i v : Fin 64) : (iter m c 32).main_v23_15 (ix4 n h i v) = (back m c).ga n h i v := by
  refine stack_rev (fun N j => (iter m c N).main_v23_15 (ix4 j h i v)) (fun n => (back m c).ga n h i v) (fun n j => ?_) n
  refine (BwdRef.ga_at n _ h j i v).trans ?_
  rw [data_iter]

/-- The stacked gradients of the decayed queries after the loop. -/
theorem gq_eq (n : Fin 32) (h : Fin 4) (i : Fin 64) (v : Fin 128) : (iter m c 32).main_v23_16 (ix4 n h i v) = (back m c).gq n h i v := by
  refine stack_rev (fun N j => (iter m c N).main_v23_16 (ix4 j h i v)) (fun n => (back m c).gq n h i v) (fun n j => ?_) n
  refine (BwdRef.gq_at n _ h j i v).trans ?_
  rw [data_iter]

/-- The stacked gradients of the decayed keys after the loop. -/
theorem gk_eq (n : Fin 32) (h : Fin 4) (i : Fin 64) (v : Fin 128) : (iter m c 32).main_v23_17 (ix4 n h i v) = (back m c).gk n h i v := by
  refine stack_rev (fun N j => (iter m c N).main_v23_17 (ix4 j h i v)) (fun n => (back m c).gk n h i v) (fun n j => ?_) n
  refine (BwdRef.gk_at n _ h j i v).trans ?_
  have hn := n.isLt
  rw [data_iter, carried m c n.val (by omega)]
  unfold Back.gk
  rw [Back.ds_rev]

/-- The stacked gradients of the last decays after the loop. -/
theorem gd_eq (n : Fin 32) (h : Fin 4) (v : Fin 128) : (iter m c 32).main_v23_18 (ix3 n h v) = (back m c).gd n h v := by
  refine stack_rev (fun N j => (iter m c N).main_v23_18 (ix3 j h v)) (fun n => (back m c).gd n h v) (fun n j => ?_) n
  refine (BwdRef.gd_at n _ h j v).trans ?_
  have hn := n.isLt
  rw [data_iter, carried m c n.val (by omega)]
  unfold Back.gd
  rw [Back.ds_rev]

/-- The stacked gradients of the gate's argument after the loop. -/
theorem gz_eq (n : Fin 32) (h : Fin 4) (i : Fin 64) (v : Fin 128) : (iter m c 32).main_v23_19 (ix4 n h i v) = (back m c).gz n h i v := by
  refine stack_rev (fun N j => (iter m c N).main_v23_19 (ix4 j h i v)) (fun n => (back m c).gz n h i v) (fun n j => ?_) n
  refine (BwdRef.gz_at n _ h j i v).trans ?_
  rw [data_iter]

end Cert.Proof.BwdRefScan

end
-- ==== Proof.BwdKernelScan.lean ====
/-
  The backward scan's kernel computes the scan's gradient of BwdScan.lean over its arguments; with the reference's, the two agree.
-/
module

public import proofs.«01_k».proof.Proof.BwdKernel
public import proofs.«01_k».proof.Proof.BwdRefScan
public import proofs.«01_k».proof.Defs

@[expose] public section

set_option maxRecDepth 16384

noncomputable section

open Idealize.ShloMosaic Idealize.ShloMosaic.TcCoe Idealize.ShloMosaic.Pointwise Idealize.SL.Sem
open Cert.KernelIdeal Cert.KernelIdeal.Gen Cert.KernelIdeal.Value Cert.Proof.Spec

namespace Cert.Proof.BwdKernelScan

variable (m : (ℓ : Loc nD τ sig) → Buf (Elt Ideal) ℓ) (c : Dev nD)

/-- The arguments as the data of the scan's gradient. -/
def back : Back := backOf (scanOf
  (fun r x => (m ((c : Thread nD τ).loc main_arg0) : FVec Ideal S2048x512 .f32) (ix2 r x))
  (fun r x => (m ((c : Thread nD τ).loc main_arg1) : FVec Ideal S2048x512 .f32) (ix2 r x))
  (fun r x => (m ((c : Thread nD τ).loc main_arg2) : FVec Ideal S2048x512 .f32) (ix2 r x))
  (fun r x => (m ((c : Thread nD τ).loc main_arg3) : FVec Ideal S2048x512 .f32) (ix2 r x))
  (fun n h i j => (m ((c : Thread nD τ).loc main_arg4) : FVec Ideal S32x4x64x64 .f32) (ix4 n h i j))
  (fun n h v => (m ((c : Thread nD τ).loc main_arg5) : FVec Ideal S32x4x128 .f32) (ix3 n h v))
  (fun r x => (m ((c : Thread nD τ).loc main_arg6) : FVec Ideal S2048x4224 .f32) (ix2 r ⟨1536 + x.val, by have := x.isLt; omega⟩))
  (fun v => (m ((c : Thread nD τ).loc main_arg7) : FVec Ideal S1x128 .f32) (ix2 0 v)))
  (fun n h k v => (m ((c : Thread nD τ).loc main_arg8) : FVec Ideal S32x4x128x128 .f32) (ix4 n h k v))
  (fun r x => (m ((c : Thread nD τ).loc main_arg9) : FVec Ideal S2048x1024 .bf16) (ix2 r ⟨x.val, by have := x.isLt; omega⟩))

/-- Where each block of the grid lies: the last chunk comes first. -/
theorem idx : ∀ t : Fin cfg0.N, win0_0.index t = ![31 - t.val, 0] ∧ win0_1.index t = ![31 - t.val, 0] ∧ win0_2.index t = ![31 - t.val, 0]
    ∧ win0_3.index t = ![31 - t.val, 0] ∧ win0_4.index t = ![31 - t.val, 0, 0, 0] ∧ win0_5.index t = ![31 - t.val, 0, 0]
    ∧ win0_6.index t = ![31 - t.val, 3] ∧ win0_7.index t = ![0, 0] ∧ win0_8.index t = ![31 - t.val, 0, 0, 0]
    ∧ win0_9.index t = ![31 - t.val, 0] ∧ win0_10.index t = ![31 - t.val, 0] ∧ win0_11.index t = ![31 - t.val, 0]
    ∧ win0_12.index t = ![31 - t.val, 0] ∧ win0_13.index t = ![31 - t.val, 0] ∧ win0_14.index t = ![31 - t.val, 0, 0, 0]
    ∧ win0_15.index t = ![31 - t.val, 0, 0] ∧ win0_16.index t = ![31 - t.val, 0] ∧ win0_17.index t = ![0, 0] :=
  (by decide +kernel : ∀ t : Fin grid0.N, _)

/-- The last grid point. -/
def last : Fin cfg0.N := ⟨31, lt_of_lt_of_eq (by decide) N_0.symm⟩

/-- A grid point's chunk. -/
def ch (t : Fin cfg0.N) : Fin 32 := rev t.val

variable (t : Fin cfg0.N) (h : Fin 4)

/-- Block 0 is the chunk's values. -/
theorem u_at (i : Fin 64) (v : Fin 128) : iblk m c 0 t (ix2 i (col h v)) = (back m c).u (ch t) h i v := by
  unfold back backOf scanOf row col ch rev
  blk_point [iblk, V, idx t]

/-- Block 1 is the chunk's products of the keys. -/
theorem w_at (i : Fin 64) (v : Fin 128) : iblk m c 1 t (ix2 i (col h v)) = (back m c).w (ch t) h i v := by
  unfold back backOf scanOf row col ch rev
  blk_point [iblk, V, idx t]

/-- Block 2 is the chunk's decayed queries. -/
theorem q_at (i : Fin 64) (v : Fin 128) : iblk m c 2 t (ix2 i (col h v)) = (back m c).q (ch t) h i v := by
  unfold back backOf scanOf row col ch rev
  blk_point [iblk, V, idx t]

/-- Block 3 is the chunk's decayed keys. -/
theorem k_at (i : Fin 64) (v : Fin 128) : iblk m c 3 t (ix2 i (col h v)) = (back m c).k (ch t) h i v := by
  unfold back backOf scanOf row col ch rev
  blk_point [iblk, V, idx t]

/-- Block 4 is the chunk's scores. -/
theorem a_at (i j : Fin 64) : iblk m c 4 t (ix4 0 h i j) = (back m c).a (ch t) h i j := by
  unfold back backOf scanOf ch rev
  blk_point [iblk, V, idx t]

/-- Block 5 is the chunk's last decays. -/
theorem d_at (v : Fin 128) : iblk m c 5 t (ix3 0 h v) = (back m c).d (ch t) h v := by
  unfold back backOf scanOf ch rev
  blk_point [iblk, V, idx t]

/-- Block 6 is the chunk's gate argument. -/
theorem z_at (i : Fin 64) (v : Fin 128) : X0_6 m c t (ix2 i (col h v)) = (back m c).z (ch t) h i v := by
  unfold back backOf scanOf row col ch rev X0_6 Pipeline.Window.fill
  rw [dif_pos (moved0_6 t _)]
  blk_point [iblk, V, idx t]

/-- Block 7 is the norm's gain. -/
theorem g_at (v : Fin 128) : iblk m c 7 t (ix2 0 v) = (back m c).g v := by
  unfold back backOf scanOf
  blk_point [iblk, V, idx t]

/-- Block 8 is the state before the chunk. -/
theorem s_at (k v : Fin 128) : iblk m c 8 t (ix4 0 h k v) = (back m c).s (ch t) h k v := by
  unfold back backOf scanOf ch rev
  blk_point [iblk, V, idx t]

/-- Block 9 is the gradient that comes back to the chunk. -/
theorem e_at (i : Fin 64) (v : Fin 128) : iblk m c 9 t (ix2 i (col h v)) = (back m c).e (ch t) h i v := by
  unfold back backOf scanOf row col ch rev
  blk_point [iblk, V, idx t]

/-- A grid point's blocks are its chunk's data. -/
theorem data_eq : BwdKernel.data m c t = (back m c).pick (ch t) := by
  refine Back.ext_fields ?_ ?_ ?_ ?_ ?_ ?_ ?_ ?_ ?_ ?_
  · funext _ h i v; exact (congrArg (fun x => iblk m c 0 t (ix2 i x)) (lane_eq h v)).trans (u_at m c t h i v)
  · funext _ h i v; exact (congrArg (fun x => iblk m c 1 t (ix2 i x)) (lane_eq h v)).trans (w_at m c t h i v)
  · funext _ h i v; exact (congrArg (fun x => iblk m c 2 t (ix2 i x)) (lane_eq h v)).trans (q_at m c t h i v)
  · funext _ h i v; exact (congrArg (fun x => iblk m c 3 t (ix2 i x)) (lane_eq h v)).trans (k_at m c t h i v)
  · funext _ h i v; exact (congrArg (fun x => X0_6 m c t (ix2 i x)) (lane_eq h v)).trans (z_at m c t h i v)
  · funext _ h i j; exact a_at m c t h i j
  · funext _ h v; exact d_at m c t h v
  · funext v; exact g_at m c t v
  · funext _ h k v; exact s_at m c t h k v
  · funext _ h i v; exact (congrArg (fun x => iblk m c 9 t (ix2 i x)) (lane_eq h v)).trans (e_at m c t h i v)

/-- A grid point that starts from the state's gradient leaves the one before. -/
theorem leaves (H : BwdKernel.ds m c t h = (back m c).dstate t.val h) (k v : Fin 128) :
    (outsAt0 m c t.val t.isLt).2.2.2.2.2.2.2.2 (ix3 h k v) = (back m c).dstate (t.val + 1) h k v := by
  rw [BwdKernel.state_at, H, data_eq]
  rfl

/-- The carried gradient before each grid point. -/
theorem carried : ∀ (n : ℕ) (t : Fin cfg0.N), t.val = n → BwdKernel.ds m c t h = (back m c).dstate t.val h
  | 0, t, e => by
    funext k v
    unfold BwdKernel.ds BwdKernel.carried
    rw [if_pos (by rw [e]), e]
    show _ = Ideal.ofBits FTy.f32 0x00000000#32
    pointwise [k0_pay5]
  | n + 1, t, e => by
    have ht : t.val < 32 := t.isLt
    funext k v
    unfold BwdKernel.ds BwdKernel.carried
    rw [if_neg (by omega)]
    have e' : (⟨t.val - 1, by omega⟩ : Fin cfg0.N).val = n := by show t.val - 1 = n; omega
    refine (leaves m c ⟨t.val - 1, by omega⟩ h (carried n _ e') k v).trans ?_
    rw [e', e]

/-- A grid point that starts from the gain's gradient so far leaves it with its own share. -/
theorem gain_leaves (H : ∀ v, BwdKernel.gained m c t (ix2 0 v) = (back m c).dgain t.val v) (v : Fin 128) :
    (outsAt0 m c t.val t.isLt).2.2.2.2.2.2.2.1 (ix2 0 v) = (back m c).dgain (t.val + 1) v := by
  rw [BwdKernel.dgain_at, H, data_eq]
  rfl

/-- The gain's gradient before each grid point. -/
theorem gained : ∀ (n : ℕ) (t : Fin cfg0.N), t.val = n → ∀ v, BwdKernel.gained m c t (ix2 0 v) = (back m c).dgain t.val v
  | 0, t, e => by
    intro v
    unfold BwdKernel.gained
    rw [if_pos (by rw [e]), e]
    show _ = Ideal.ofBits FTy.f32 0x00000000#32
    pointwise [k0_pay6]
  | n + 1, t, e => by
    have ht : t.val < 32 := t.isLt
    intro v
    unfold BwdKernel.gained
    rw [if_neg (by omega)]
    have e' : (⟨t.val - 1, by omega⟩ : Fin cfg0.N).val = n := by show t.val - 1 = n; omega
    refine (gain_leaves m c ⟨t.val - 1, by omega⟩ (gained n _ e') v).trans ?_
    rw [e', e]

/-- The gradient a grid point's chunk starts from. -/
theorem ds_ch : (back m c).ds (ch t) = (back m c).dstate t.val := Back.ds_rev _ ⟨t.val, t.isLt⟩

/-- Output block 10 is the chunk's `gu`. -/
theorem gu_at (i : Fin 64) (v : Fin 128) : (outsAt0 m c t.val t.isLt).1 (ix2 i (col h v)) = (back m c).gu (ch t) h i v := by
  rw [BwdKernel.du_at, data_eq, carried m c h t.val t rfl]
  unfold Back.gu
  rw [ds_ch]
  rfl

/-- Output block 11 is the chunk's `gw`. -/
theorem gw_at (i : Fin 64) (v : Fin 128) : (outsAt0 m c t.val t.isLt).2.1 (ix2 i (col h v)) = (back m c).gw (ch t) h i v := by
  rw [BwdKernel.dw_at, data_eq, carried m c h t.val t rfl]
  unfold Back.gw Back.gu
  rw [ds_ch]
  rfl

/-- Output block 12 is the chunk's `gq`. -/
theorem gq_at (i : Fin 64) (v : Fin 128) : (outsAt0 m c t.val t.isLt).2.2.1 (ix2 i (col h v)) = (back m c).gq (ch t) h i v := by
  rw [BwdKernel.dq_at, data_eq]
  rfl

/-- Output block 13 is the chunk's `gk`. -/
theorem gk_at (i : Fin 64) (v : Fin 128) : (outsAt0 m c t.val t.isLt).2.2.2.1 (ix2 i (col h v)) = (back m c).gk (ch t) h i v := by
  rw [BwdKernel.dk_at, data_eq, carried m c h t.val t rfl]
  unfold Back.gk
  rw [ds_ch]
  rfl

/-- Output block 16 is the chunk's `gz`. -/
theorem gz_at (i : Fin 64) (v : Fin 128) : (outsAt0 m c t.val t.isLt).2.2.2.2.2.2.1 (ix2 i (col h v)) = (back m c).gz (ch t) h i v := by
  rw [BwdKernel.dz_at, data_eq]
  rfl

/-- Output block 14 is the chunk's `ga`. -/
theorem ga_at (i v : Fin 64) : (outsAt0 m c t.val t.isLt).2.2.2.2.1 (ix4 0 h i v) = (back m c).ga (ch t) h i v := by
  rw [BwdKernel.da_at, data_eq]
  rfl

/-- Output block 15 is the chunk's `gd`. -/
theorem gd_at (v : Fin 128) : (outsAt0 m c t.val t.isLt).2.2.2.2.2.1 (ix3 0 h v) = (back m c).gd (ch t) h v := by
  rw [BwdKernel.dd_at, data_eq, carried m c h t.val t rfl]
  unfold Back.gd
  rw [ds_ch]
  rfl

/-- An array by tokens and columns. -/
def tokArr (f : Fin 32 → Fin 4 → Fin 64 → Fin 128 → EReal) : FVec Ideal S2048x512 .f32 := fun i => flat f (i 0) (i 1)

/-- The array of the scores' gradients. -/
def scoreArr (D : Back) : FVec Ideal S32x4x64x64 .f32 := fun i => D.ga (i 0) (i 1) (i 2) (i 3)

/-- The array of the last decays' gradients. -/
def decayArr (D : Back) : FVec Ideal S32x4x128 .f32 := fun i => D.gd (i 0) (i 1) (i 2)

/-- The array of the gain's gradient. -/
def gainArr (D : Back) : FVec Ideal S1x128 .f32 := fun i => D.dgain 32 (i 1)

/-- Array 10 is `gu`, by tokens and columns. -/
theorem final10 : (dats m 0 c).arrAt 10 (cfgs 0).N = tokArr (back m c).gu := by
  refine (dats m 0 c).arrAt_eq_of_covers 10 _ (by decide +kernel) fun t _ y => ?_
  blk_simp
  rw [after0_10]
  obtain ⟨h, v, hv⟩ := col_surj (y 1)
  obtain ⟨i, hi⟩ : ∃ i : Fin 64, i = y 0 := ⟨y 0, rfl⟩
  have ey : y = ix2 i (col h v) := by rw [hi, ← hv]; blk_ext []
  have e : ((cfg0.win 10).blk t).view.emb y = ix2 (row (ch t) i) (col h v) := by rw [ey]; unfold row ch rev; blk_ext [idx t]
  rw [e]
  exact (congrArg _ ey).trans ((gu_at m c t h i v).trans (flat_at _ _ _ _ _).symm)

/-- Array 11 is `gw`, by tokens and columns. -/
theorem final11 : (dats m 0 c).arrAt 11 (cfgs 0).N = tokArr (back m c).gw := by
  refine (dats m 0 c).arrAt_eq_of_covers 11 _ (by decide +kernel) fun t _ y => ?_
  blk_simp
  rw [after0_11]
  obtain ⟨h, v, hv⟩ := col_surj (y 1)
  obtain ⟨i, hi⟩ : ∃ i : Fin 64, i = y 0 := ⟨y 0, rfl⟩
  have ey : y = ix2 i (col h v) := by rw [hi, ← hv]; blk_ext []
  have e : ((cfg0.win 11).blk t).view.emb y = ix2 (row (ch t) i) (col h v) := by rw [ey]; unfold row ch rev; blk_ext [idx t]
  rw [e]
  exact (congrArg _ ey).trans ((gw_at m c t h i v).trans (flat_at _ _ _ _ _).symm)

/-- Array 12 is `gq`, by tokens and columns. -/
theorem final12 : (dats m 0 c).arrAt 12 (cfgs 0).N = tokArr (back m c).gq := by
  refine (dats m 0 c).arrAt_eq_of_covers 12 _ (by decide +kernel) fun t _ y => ?_
  blk_simp
  rw [after0_12]
  obtain ⟨h, v, hv⟩ := col_surj (y 1)
  obtain ⟨i, hi⟩ : ∃ i : Fin 64, i = y 0 := ⟨y 0, rfl⟩
  have ey : y = ix2 i (col h v) := by rw [hi, ← hv]; blk_ext []
  have e : ((cfg0.win 12).blk t).view.emb y = ix2 (row (ch t) i) (col h v) := by rw [ey]; unfold row ch rev; blk_ext [idx t]
  rw [e]
  exact (congrArg _ ey).trans ((gq_at m c t h i v).trans (flat_at _ _ _ _ _).symm)

/-- Array 13 is `gk`, by tokens and columns. -/
theorem final13 : (dats m 0 c).arrAt 13 (cfgs 0).N = tokArr (back m c).gk := by
  refine (dats m 0 c).arrAt_eq_of_covers 13 _ (by decide +kernel) fun t _ y => ?_
  blk_simp
  rw [after0_13]
  obtain ⟨h, v, hv⟩ := col_surj (y 1)
  obtain ⟨i, hi⟩ : ∃ i : Fin 64, i = y 0 := ⟨y 0, rfl⟩
  have ey : y = ix2 i (col h v) := by rw [hi, ← hv]; blk_ext []
  have e : ((cfg0.win 13).blk t).view.emb y = ix2 (row (ch t) i) (col h v) := by rw [ey]; unfold row ch rev; blk_ext [idx t]
  rw [e]
  exact (congrArg _ ey).trans ((gk_at m c t h i v).trans (flat_at _ _ _ _ _).symm)

/-- Array 16 is `gz`, by tokens and columns. -/
theorem final16 : (dats m 0 c).arrAt 16 (cfgs 0).N = tokArr (back m c).gz := by
  refine (dats m 0 c).arrAt_eq_of_covers 16 _ (by decide +kernel) fun t _ y => ?_
  blk_simp
  rw [after0_16]
  obtain ⟨h, v, hv⟩ := col_surj (y 1)
  obtain ⟨i, hi⟩ : ∃ i : Fin 64, i = y 0 := ⟨y 0, rfl⟩
  have ey : y = ix2 i (col h v) := by rw [hi, ← hv]; blk_ext []
  have e : ((cfg0.win 16).blk t).view.emb y = ix2 (row (ch t) i) (col h v) := by rw [ey]; unfold row ch rev; blk_ext [idx t]
  rw [e]
  exact (congrArg _ ey).trans ((gz_at m c t h i v).trans (flat_at _ _ _ _ _).symm)

/-- Array 14 is `ga`. -/
theorem final14 : (dats m 0 c).arrAt 14 (cfgs 0).N = scoreArr (back m c) := by
  refine (dats m 0 c).arrAt_eq_of_covers 14 _ (by decide +kernel) fun t _ y => ?_
  blk_simp
  rw [after0_14]
  have ey : y = ix4 0 (y 1) (y 2) (y 3) := by blk_ext []
  have e : ((cfg0.win 14).blk t).view.emb y = ix4 (ch t) (y 1) (y 2) (y 3) := by unfold ch rev; blk_ext [idx t]
  rw [e]
  exact (congrArg _ ey).trans (ga_at m c t (y 1) (y 2) (y 3))

/-- Array 15 is `gd`. -/
theorem final15 : (dats m 0 c).arrAt 15 (cfgs 0).N = decayArr (back m c) := by
  refine (dats m 0 c).arrAt_eq_of_covers 15 _ (by decide +kernel) fun t _ y => ?_
  blk_simp
  rw [after0_15]
  have ey : y = ix3 0 (y 1) (y 2) := by blk_ext []
  have e : ((cfg0.win 15).blk t).view.emb y = ix3 (ch t) (y 1) (y 2) := by unfold ch rev; blk_ext [idx t]
  rw [e]
  exact (congrArg _ ey).trans (gd_at m c t (y 1) (y 2))

/-- Array 17 is the gain's gradient. -/
theorem final17 : (dats m 0 c).arrAt 17 (cfgs 0).N = gainArr (back m c) := by
  refine (dats m 0 c).arrAt_eq_of_after_last 17 last (by decide +kernel) _ fun j => ?_
  blk_simp
  have ej : j = ix2 0 (j 1) := by blk_ext []
  rw [after0_17, ej]
  exact gain_leaves m c last (gained m c 31 last rfl) (j 1)

/-- An array whose entry at each chunk's token and each head's lane is `f`'s is `f` by tokens and columns. -/
theorem eq_tokArr (X : FVec Ideal S2048x512 .f32) (f : Fin 32 → Fin 4 → Fin 64 → Fin 128 → EReal)
    (H : ∀ n h i v, X (ix2 (row n i) (col h v)) = f n h i v) : X = tokArr f := by
  funext x
  obtain ⟨n, i, hr⟩ := row_surj (x 0)
  obtain ⟨h, v, hx⟩ := col_surj (x 1)
  obtain rfl : x = ix2 (row n i) (col h v) := by rw [← hr, ← hx]; blk_ext []
  exact (H n h i v).trans (flat_at _ _ _ _ _).symm

/-- The scan's backward kernel and the gradient of the scan's reference leave the same gradients. -/
theorem algebraic : algebraic_KernelIdeal_ReferenceIdeal := by
  intro m g m' g' _ hagree
  refine ⟨fun c => tokArr (back m c).gu, fun c => tokArr (back m c).gw, fun c => tokArr (back m c).gq, fun c => tokArr (back m c).gk,
    fun c => scoreArr (back m c), fun c => decayArr (back m c), fun c => tokArr (back m c).gz, fun c => gainArr (back m c),
    (θ_run _ _ _).mono (fun r h c => ?_) (run_blocks m g), (θ_run _ _ _).mono (fun r h c => ?_) (BwdRefRun.run m' g')⟩
  · obtain ⟨h10, h11, h12, h13, h14, h15, h16, h17, h⟩ := h c
    exact ⟨h10.trans (final10 m c), h11.trans (final11 m c), h12.trans (final12 m c), h13.trans (final13 m c), h14.trans (final14 m c),
      h15.trans (final15 m c), h16.trans (final16 m c), h17.trans (final17 m c), h⟩
  · obtain ⟨h10, h11, h12, h13, h14, h15, h16, h17, h⟩ := h c
    obtain ⟨e0, e1, e2, e3, e4, e5, e6, e7, e8, e9⟩ := hagree c
    have es : back m c = BwdRefScan.back m' c := by
      unfold back BwdRefScan.back
      rw [← e0, ← e1, ← e2, ← e3, ← e4, ← e5, ← e6, ← e7, ← e8, ← e9]
    beta_reduce
    rw [es]
    refine ⟨h10.trans (eq_tokArr _ _ fun n h i v => ?_), h11.trans (eq_tokArr _ _ fun n h i v => ?_),
      h12.trans (eq_tokArr _ _ fun n h i v => ?_), h13.trans (eq_tokArr _ _ fun n h i v => ?_), h14.trans ?_, h15.trans ?_,
      h16.trans (eq_tokArr _ _ fun n h i v => ?_), h17.trans ?_, h⟩
    · exact (BwdRefScan.tokens_at _ n h i v).trans (BwdRefScan.gu_eq m' c n h i v)
    · exact (BwdRefScan.tokens_at _ n h i v).trans (BwdRefScan.gw_eq m' c n h i v)
    · exact (BwdRefScan.tokens_at _ n h i v).trans (BwdRefScan.gq_eq m' c n h i v)
    · exact (BwdRefScan.tokens_at _ n h i v).trans (BwdRefScan.gk_eq m' c n h i v)
    · funext x
      have ex : x = ix4 (x 0) (x 1) (x 2) (x 3) := by blk_ext []
      rw [ex]
      exact BwdRefScan.ga_eq m' c (x 0) (x 1) (x 2) (x 3)
    · funext x
      have ex : x = ix3 (x 0) (x 1) (x 2) := by blk_ext []
      rw [ex]
      exact BwdRefScan.gd_eq m' c (x 0) (x 1) (x 2)
    · exact (BwdRefScan.tokens_at _ n h i v).trans (BwdRefScan.gz_eq m' c n h i v)
    · funext x
      have ex : x = ix2 0 (x 1) := by blk_ext []
      rw [ex]
      exact BwdRefScan.gained m' c 32 le_rfl (x 1)

end Cert.Proof.BwdKernelScan

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel9Ideal.Value
public import proofs.«01_k».proof.Proof.Gen.Kernel12Ideal.Value
public import proofs.«01_k».proof.Proof.Gen.KernelIdeal.Value
public import proofs.«01_k».proof.Proof.Gen.Kernel2Ideal.Value
public import proofs.«01_k».proof.Proof.Gen.ReferenceIdeal.Step
public import proofs.«01_k».proof.Proof.Gen.Reference2Ideal.Step
public import proofs.«01_k».proof.Proof.Frames
public import proofs.«01_k».proof.Proof.Down
public import proofs.«01_k».proof.Proof.DownNorm
public import proofs.«01_k».proof.Proof.Up
public import proofs.«01_k».proof.Proof.UpDx
public import proofs.«01_k».proof.Proof.MixInDx
public import proofs.«01_k».proof.Proof.Loss
public import proofs.«01_k».proof.Proof.MixIn
public import proofs.«01_k».proof.Proof.Gate
public import proofs.«01_k».proof.Proof.ConvBwd
public import proofs.«01_k».proof.Proof.FwdKernelScan
public import proofs.«01_k».proof.Proof.BwdKernelScan

@[expose] public section

noncomputable section

namespace Cert.Proof

open Idealize.ShloMosaic Idealize.SL.Sem

/-- Every claim: the frames program by program, then, program by program, that nothing was rewritten and that kernel and reference agree. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts,
    fun m ρ _ => Cert.Kernel.Gen.frame m ρ,
    fun m ρ _ => Cert.KernelIdeal.Gen.frame m ρ,
    Frames.reference,
    fun m ρ _ => Cert.Kernel2.Gen.frame m ρ,
    fun m ρ _ => Cert.Kernel2Ideal.Gen.frame m ρ,
    Frames.reference2,
    fun m ρ _ => Cert.Kernel3.Gen.frame m ρ,
    fun m ρ _ => Cert.Kernel3Ideal.Gen.frame m ρ,
    Frames.reference3,
    fun m ρ _ => Cert.Kernel4.Gen.frame m ρ,
    fun m ρ _ => Cert.Kernel4Ideal.Gen.frame m ρ,
    Frames.reference4,
    fun m ρ _ => Cert.Kernel5.Gen.frame m ρ,
    fun m ρ _ => Cert.Kernel5Ideal.Gen.frame m ρ,
    Frames.reference5,
    fun m ρ _ => Cert.Kernel6.Gen.frame m ρ,
    fun m ρ _ => Cert.Kernel6Ideal.Gen.frame m ρ,
    Frames.reference6,
    fun m ρ _ => Cert.Kernel7.Gen.frame m ρ,
    fun m ρ _ => Cert.Kernel7Ideal.Gen.frame m ρ,
    Frames.reference7,
    fun m ρ _ => Cert.Kernel8.Gen.frame m ρ,
    fun m ρ _ => Cert.Kernel8Ideal.Gen.frame m ρ,
    Frames.reference8,
    fun m ρ _ => Cert.Kernel9.Gen.frame m ρ,
    fun m ρ _ => Cert.Kernel9Ideal.Gen.frame m ρ,
    Frames.reference9,
    fun m ρ _ => Cert.Kernel10.Gen.frame m ρ,
    fun m ρ _ => Cert.Kernel10Ideal.Gen.frame m ρ,
    Frames.reference10,
    fun m ρ _ => Cert.Kernel11.Gen.frame m ρ,
    fun m ρ _ => Cert.Kernel11Ideal.Gen.frame m ρ,
    Frames.reference11,
    fun m ρ _ => Cert.Kernel12.Gen.frame m ρ,
    fun m ρ _ => Cert.Kernel12Ideal.Gen.frame m ρ,
    Frames.reference12,
    fun m ρ _ => Cert.Kernel13.Gen.frame m ρ,
    fun m ρ _ => Cert.Kernel13Ideal.Gen.frame m ρ,
    Frames.reference13,
    fun m ρ _ => Cert.Kernel14.Gen.frame m ρ,
    fun m ρ _ => Cert.Kernel14Ideal.Gen.frame m ρ,
    Frames.reference14,
    trivial,
    BwdKernelScan.algebraic,
    trivial,
    FwdKernelScan.algebraic,
    trivial,
    UpDx.algebraic,
    trivial,
    UpDw.algebraic,
    trivial,
    DownDx.algebraic,
    trivial,
    DownDw.algebraic,
    trivial,
    Up.algebraic,
    trivial,
    DownNorm.algebraic,
    trivial,
    ConvBwd.algebraic,
    trivial,
    MixInDx.algebraic,
    trivial,
    MixInDw.algebraic,
    trivial,
    Loss.algebraic,
    trivial,
    MixIn.algebraic,
    trivial,
    Gate.algebraic⟩

end Cert.Proof

end
